-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S12288x64 : Shape := ⟨2, ![12288, 64]⟩
abbrev S64x1024 : Shape := ⟨2, ![64, 1024]⟩
abbrev S1024 : Shape := ⟨1, ![1024]⟩
abbrev S1x1024 : Shape := ⟨2, ![1, 1024]⟩
abbrev S512x64 : Shape := ⟨2, ![512, 64]⟩
abbrev S4x512x1024 : Shape := ⟨3, ![4, 512, 1024]⟩
abbrev S4x4 : Shape := ⟨2, ![4, 4]⟩
abbrev S1x1 : Shape := ⟨2, ![1, 1]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S12288x64, .f32⟩
  | .hbm, ⟨2, _⟩ => ⟨S64x1024, .f32⟩
  | .hbm, ⟨3, _⟩ => ⟨S1024, .f32⟩
  | .hbm, ⟨4, _⟩ => ⟨S1x1024, .f32⟩
  | .hbm, ⟨5, _⟩ => ⟨S4x8192x1024, .f32⟩
  | .local _ .vmem, ⟨0, _⟩ => ⟨S512x64, .f32⟩
  | .local _ .vmem, ⟨1, _⟩ => ⟨S512x64, .f32⟩
  | .local _ .vmem, ⟨2, _⟩ => ⟨S64x1024, .f32⟩
  | .local _ .vmem, ⟨3, _⟩ => ⟨S1x1024, .f32⟩
  | .local _ .vmem, ⟨4, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32_3 : BitVec 32 := 4#32
  let v10 : BitVec 1 := Scalar.cmpi .sge arg0 c4_i32_3
  let v11 : BitVec 32 := Scalar.extui v10
  let c0_i32_4 : BitVec 32 := 0#32
  let v12 : BitVec 1 := Scalar.cmpi .ne v11 c0_i32_4
  v12

def k0_off1 (i : grid0.Coords) : Fin 2 → Nat :=
  let arg0 : BitVec 32 := BitVec.ofNat 32 (i 0).val
  let c4_i32_40 : BitVec 32 := 4#32
  let v65 : BitVec 32 := Scalar.subi arg0 c4_i32_40
  let c4_i32_41 : BitVec 32 := 4#32
  let c0_i32_42 : BitVec 32 := 0#32
  let v66 : BitVec 1 := Scalar.cmpi .eq c4_i32_41 c0_i32_42
  let c1_i32_43 : BitVec 32 := 1#32
  let v67 : BitVec 32 := Scalar.select v66 c1_i32_43 c4_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c0_i32_52 : BitVec 32 := 0#32
  ![v75.toNat, 0]
def k0_off2 (i : grid0.Coords) : Fin 3 → Nat :=
  let c0_i32_51 : BitVec 32 := 0#32
  let arg0 : BitVec 32 := BitVec.ofNat 32 (i 0).val
  let c4_i32_40 : BitVec 32 := 4#32
  let v65 : BitVec 32 := Scalar.subi arg0 c4_i32_40
  let c512_i32_47 : BitVec 32 := 512#32
  let v76 : BitVec 32 := Scalar.muli v65 c512_i32_47
  let c0_i32_53 : BitVec 32 := 0#32
  ![0, v76.toNat, 0]
def k0_off3 (i : grid0.Coords) : Fin 3 → Nat :=
  let arg0 : BitVec 32 := BitVec.ofNat 32 (i 0).val
  let c4_i32_40 : BitVec 32 := 4#32
  let v65 : BitVec 32 := Scalar.subi arg0 c4_i32_40
  let c4_i32_41 : BitVec 32 := 4#32
  let c0_i32_42 : BitVec 32 := 0#32
  let v66 : BitVec 1 := Scalar.cmpi .eq c4_i32_41 c0_i32_42
  let c1_i32_43 : BitVec 32 := 1#32
  let v67 : BitVec 32 := Scalar.select v66 c1_i32_43 c4_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c0_i32_54 : BitVec 32 := 0#32
  let c0_i32_55 : BitVec 32 := 0#32
  ![v75.toNat, 0, 0]
def k0_off4 (i : grid0.Coords) : Fin 2 → Nat :=
  let arg0 : BitVec 32 := BitVec.ofNat 32 (i 0).val
  let c4_i32_40 : BitVec 32 := 4#32
  let v65 : BitVec 32 := Scalar.subi arg0 c4_i32_40
  let c4_i32_41 : BitVec 32 := 4#32
  let c0_i32_42 : BitVec 32 := 0#32
  let v66 : BitVec 1 := Scalar.cmpi .eq c4_i32_41 c0_i32_42
  let c1_i32_43 : BitVec 32 := 1#32
  let v67 : BitVec 32 := Scalar.select v66 c1_i32_43 c4_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c1_i32_57 : BitVec 32 := 1#32
  ![v75.toNat, 1]
def k0_off5 (i : grid0.Coords) : Fin 3 → Nat :=
  let c1_i32_56 : BitVec 32 := 1#32
  let arg0 : BitVec 32 := BitVec.ofNat 32 (i 0).val
  let c4_i32_40 : BitVec 32 := 4#32
  let v65 : BitVec 32 := Scalar.subi arg0 c4_i32_40
  let c512_i32_48 : BitVec 32 := 512#32
  let v77 : BitVec 32 := Scalar.muli v65 c512_i32_48
  let c0_i32_58 : BitVec 32 := 0#32
  ![1, v77.toNat, 0]
def k0_off6 (i : grid0.Coords) : Fin 2 → Nat :=
  let arg0 : BitVec 32 := BitVec.ofNat 32 (i 0).val
  let c4_i32_40 : BitVec 32 := 4#32
  let v65 : BitVec 32 := Scalar.subi arg0 c4_i32_40
  let c4_i32_41 : BitVec 32 := 4#32
  let c0_i32_42 : BitVec 32 := 0#32
  let v66 : BitVec 1 := Scalar.cmpi .eq c4_i32_41 c0_i32_42
  let c1_i32_43 : BitVec 32 := 1#32
  let v67 : BitVec 32 := Scalar.select v66 c1_i32_43 c4_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c2_i32_62 : BitVec 32 := 2#32
  ![v75.toNat, 2]
def k0_off7 (i : grid0.Coords) : Fin 3 → Nat :=
  let c2_i32_61 : BitVec 32 := 2#32
  let arg0 : BitVec 32 := BitVec.ofNat 32 (i 0).val
  let c4_i32_40 : BitVec 32 := 4#32
  let v65 : BitVec 32 := Scalar.subi arg0 c4_i32_40
  let c512_i32_49 : BitVec 32 := 512#32
  let v78 : BitVec 32 := Scalar.muli v65 c512_i32_49
  let c0_i32_63 : BitVec 32 := 0#32
  ![2, v78.toNat, 0]
def k0_off8 (i : grid0.Coords) : Fin 2 → Nat :=
  let arg0 : BitVec 32 := BitVec.ofNat 32 (i 0).val
  let c4_i32_40 : BitVec 32 := 4#32
  let v65 : BitVec 32 := Scalar.subi arg0 c4_i32_40
  let c4_i32_41 : BitVec 32 := 4#32
  let c0_i32_42 : BitVec 32 := 0#32
  let v66 : BitVec 1 := Scalar.cmpi .eq c4_i32_41 c0_i32_42
  let c1_i32_43 : BitVec 32 := 1#32
  let v67 : BitVec 32 := Scalar.select v66 c1_i32_43 c4_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c3_i32_67 : BitVec 32 := 3#32
  ![v75.toNat, 3]
def k0_off9 (i : grid0.Coords) : Fin 3 → Nat :=
  let c3_i32_66 : BitVec 32 := 3#32
  let arg0 : BitVec 32 := BitVec.ofNat 32 (i 0).val
  let c4_i32_40 : BitVec 32 := 4#32
  let v65 : BitVec 32 := Scalar.subi arg0 c4_i32_40
  let c512_i32_50 : BitVec 32 := 512#32
  let v79 : BitVec 32 := Scalar.muli v65 c512_i32_50
  let c0_i32_68 : BitVec 32 := 0#32
  ![3, v79.toNat, 0]
def k0_off10 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : Index := Scalar.indexCast v9
  let c0_10 : Index := 0#32
  let c0_11 : Index := 0#32
  ![v20.toNat, 0, 0]
def k0_off11 (i : grid0.Coords) : Fin 2 → Nat :=
  let arg0 : BitVec 32 := BitVec.ofNat 32 (i 0).val
  let c4_i32_12 : BitVec 32 := 4#32
  let c0_i32_13 : BitVec 32 := 0#32
  let v24 : BitVec 1 := Scalar.cmpi .eq c4_i32_12 c0_i32_13
  let c1_i32_14 : BitVec 32 := 1#32
  let v25 : BitVec 32 := Scalar.select v24 c1_i32_14 c4_i32_12
  let v26 : BitVec 32 := Scalar.remsi arg0 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c0_i32_22 : BitVec 32 := 0#32
  ![v33.toNat, 0]
def k0_off12 (i : grid0.Coords) : Fin 3 → Nat :=
  let c0_i32_21 : BitVec 32 := 0#32
  let arg0 : BitVec 32 := BitVec.ofNat 32 (i 0).val
  let c512_i32 : BitVec 32 := 512#32
  let v34 : BitVec 32 := Scalar.muli arg0 c512_i32
  let c0_i32_23 : BitVec 32 := 0#32
  ![0, v34.toNat, 0]
def k0_off13 (i : grid0.Coords) : Fin 3 → Nat :=
  let arg0 : BitVec 32 := BitVec.ofNat 32 (i 0).val
  let c4_i32_12 : BitVec 32 := 4#32
  let c0_i32_13 : BitVec 32 := 0#32
  let v24 : BitVec 1 := Scalar.cmpi .eq c4_i32_12 c0_i32_13
  let c1_i32_14 : BitVec 32 := 1#32
  let v25 : BitVec 32 := Scalar.select v24 c1_i32_14 c4_i32_12
  let v26 : BitVec 32 := Scalar.remsi arg0 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c0_i32_24 : BitVec 32 := 0#32
  let c0_i32_25 : BitVec 32 := 0#32
  ![v33.toNat, 0, 0]
def k0_off14 (i : grid0.Coords) : Fin 2 → Nat :=
  let arg0 : BitVec 32 := BitVec.ofNat 32 (i 0).val
  let c4_i32_12 : BitVec 32 := 4#32
  let c0_i32_13 : BitVec 32 := 0#32
  let v24 : BitVec 1 := Scalar.cmpi .eq c4_i32_12 c0_i32_13
  let c1_i32_14 : BitVec 32 := 1#32
  let v25 : BitVec 32 := Scalar.select v24 c1_i32_14 c4_i32_12
  let v26 : BitVec 32 := Scalar.remsi arg0 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c1_i32_27 : BitVec 32 := 1#32
  ![v33.toNat, 1]
def k0_off15 (i : grid0.Coords) : Fin 3 → Nat :=
  let c1_i32_26 : BitVec 32 := 1#32
  let arg0 : BitVec 32 := BitVec.ofNat 32 (i 0).val
  let c512_i32_18 : BitVec 32 := 512#32
  let v35 : BitVec 32 := Scalar.muli arg0 c512_i32_18
  let c0_i32_28 : BitVec 32 := 0#32
  ![1, v35.toNat, 0]
def k0_off16 (i : grid0.Coords) : Fin 2 → Nat :=
  let arg0 : BitVec 32 := BitVec.ofNat 32 (i 0).val
  let c4_i32_12 : BitVec 32 := 4#32
  let c0_i32_13 : BitVec 32 := 0#32
  let v24 : BitVec 1 := Scalar.cmpi .eq c4_i32_12 c0_i32_13
  let c1_i32_14 : BitVec 32 := 1#32
  let v25 : BitVec 32 := Scalar.select v24 c1_i32_14 c4_i32_12
  let v26 : BitVec 32 := Scalar.remsi arg0 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c2_i32_31 : BitVec 32 := 2#32
  ![v33.toNat, 2]
def k0_off17 (i : grid0.Coords) : Fin 3 → Nat :=
  let c2_i32 : BitVec 32 := 2#32
  let arg0 : BitVec 32 := BitVec.ofNat 32 (i 0).val
  let c512_i32_19 : BitVec 32 := 512#32
  let v36 : BitVec 32 := Scalar.muli arg0 c512_i32_19
  let c0_i32_32 : BitVec 32 := 0#32
  ![2, v36.toNat, 0]
def k0_off18 (i : grid0.Coords) : Fin 2 → Nat :=
  let arg0 : BitVec 32 := BitVec.ofNat 32 (i 0).val
  let c4_i32_12 : BitVec 32 := 4#32
  let c0_i32_13 : BitVec 32 := 0#32
  let v24 : BitVec 1 := Scalar.cmpi .eq c4_i32_12 c0_i32_13
  let c1_i32_14 : BitVec 32 := 1#32
  let v25 : BitVec 32 := Scalar.select v24 c1_i32_14 c4_i32_12
  let v26 : BitVec 32 := Scalar.remsi arg0 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c3_i32_35 : BitVec 32 := 3#32
  ![v33.toNat, 3]
def k0_off19 (i : grid0.Coords) : Fin 3 → Nat :=
  let c3_i32 : BitVec 32 := 3#32
  let arg0 : BitVec 32 := BitVec.ofNat 32 (i 0).val
  let c512_i32_20 : BitVec 32 := 512#32
  let v37 : BitVec 32 := Scalar.muli arg0 c512_i32_20
  let c0_i32_36 : BitVec 32 := 0#32
  ![3, v37.toNat, 0]
def k0_cond2 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_39 : BitVec 32 := 0#32
  let v64 : BitVec 1 := Scalar.cmpi .ne v63 c0_i32_39
  v64

def k0_cond3 (i : grid0.Coords) : BitVec 1 :=
  let arg0 : BitVec 32 := BitVec.ofNat 32 (i 0).val
  let c3_i32_40 : BitVec 32 := 3#32
  let v65 : BitVec 32 := Scalar.subi arg0 c3_i32_40
  let c0_i32_41 : BitVec 32 := 0#32
  let v66 : BitVec 1 := Scalar.cmpi .sge v65 c0_i32_41
  let v67 : BitVec 32 := Scalar.extui v66
  let c0_i32_42 : BitVec 32 := 0#32
  let v68 : BitVec 1 := Scalar.cmpi .ne v67 c0_i32_42
  v68

def k0_off20 (i : grid0.Coords) : Fin 2 → Nat :=
  let arg0 : BitVec 32 := BitVec.ofNat 32 (i 0).val
  let c3_i32_40 : BitVec 32 := 3#32
  let v65 : BitVec 32 := Scalar.subi arg0 c3_i32_40
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v65 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c0_i32_63 : BitVec 32 := 0#32
  ![v90.toNat, 0]
def k0_off21 (i : grid0.Coords) : Fin 3 → Nat :=
  let c0_i32_62 : BitVec 32 := 0#32
  let arg0 : BitVec 32 := BitVec.ofNat 32 (i 0).val
  let c3_i32_40 : BitVec 32 := 3#32
  let v65 : BitVec 32 := Scalar.subi arg0 c3_i32_40
  let c512_i32_58 : BitVec 32 := 512#32
  let v91 : BitVec 32 := Scalar.muli v65 c512_i32_58
  let c0_i32_64 : BitVec 32 := 0#32
  ![0, v91.toNat, 0]
def k0_off22 (i : grid0.Coords) : Fin 3 → Nat :=
  let arg0 : BitVec 32 := BitVec.ofNat 32 (i 0).val
  let c3_i32_40 : BitVec 32 := 3#32
  let v65 : BitVec 32 := Scalar.subi arg0 c3_i32_40
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v65 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c0_i32_65 : BitVec 32 := 0#32
  let c0_i32_66 : BitVec 32 := 0#32
  ![v90.toNat, 0, 0]
def k0_off23 (i : grid0.Coords) : Fin 2 → Nat :=
  let arg0 : BitVec 32 := BitVec.ofNat 32 (i 0).val
  let c3_i32_40 : BitVec 32 := 3#32
  let v65 : BitVec 32 := Scalar.subi arg0 c3_i32_40
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v65 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c1_i32_68 : BitVec 32 := 1#32
  ![v90.toNat, 1]
def k0_off24 (i : grid0.Coords) : Fin 3 → Nat :=
  let c1_i32_67 : BitVec 32 := 1#32
  let arg0 : BitVec 32 := BitVec.ofNat 32 (i 0).val
  let c3_i32_40 : BitVec 32 := 3#32
  let v65 : BitVec 32 := Scalar.subi arg0 c3_i32_40
  let c512_i32_59 : BitVec 32 := 512#32
  let v92 : BitVec 32 := Scalar.muli v65 c512_i32_59
  let c0_i32_69 : BitVec 32 := 0#32
  ![1, v92.toNat, 0]
def k0_off25 (i : grid0.Coords) : Fin 2 → Nat :=
  let arg0 : BitVec 32 := BitVec.ofNat 32 (i 0).val
  let c3_i32_40 : BitVec 32 := 3#32
  let v65 : BitVec 32 := Scalar.subi arg0 c3_i32_40
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v65 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c2_i32_73 : BitVec 32 := 2#32
  ![v90.toNat, 2]
def k0_off26 (i : grid0.Coords) : Fin 3 → Nat :=
  let c2_i32_72 : BitVec 32 := 2#32
  let arg0 : BitVec 32 := BitVec.ofNat 32 (i 0).val
  let c3_i32_40 : BitVec 32 := 3#32
  let v65 : BitVec 32 := Scalar.subi arg0 c3_i32_40
  let c512_i32_60 : BitVec 32 := 512#32
  let v93 : BitVec 32 := Scalar.muli v65 c512_i32_60
  let c0_i32_74 : BitVec 32 := 0#32
  ![2, v93.toNat, 0]
def k0_off27 (i : grid0.Coords) : Fin 2 → Nat :=
  let arg0 : BitVec 32 := BitVec.ofNat 32 (i 0).val
  let c3_i32_40 : BitVec 32 := 3#32
  let v65 : BitVec 32 := Scalar.subi arg0 c3_i32_40
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v65 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c3_i32_78 : BitVec 32 := 3#32
  ![v90.toNat, 3]
def k0_off28 (i : grid0.Coords) : Fin 3 → Nat :=
  let c3_i32_77 : BitVec 32 := 3#32
  let arg0 : BitVec 32 := BitVec.ofNat 32 (i 0).val
  let c3_i32_40 : BitVec 32 := 3#32
  let v65 : BitVec 32 := Scalar.subi arg0 c3_i32_40
  let c512_i32_61 : BitVec 32 := 512#32
  let v94 : BitVec 32 := Scalar.muli v65 c512_i32_61
  let c0_i32_79 : BitVec 32 := 0#32
  ![3, v94.toNat, 0]
def k0_cond4 (i : grid0.Coords) : BitVec 1 :=
  let arg0 : BitVec 32 := BitVec.ofNat 32 (i 0).val
  let c2_i32_43 : BitVec 32 := 2#32
  let v69 : BitVec 32 := Scalar.subi arg0 c2_i32_43
  let c0_i32_44 : BitVec 32 := 0#32
  let v70 : BitVec 1 := Scalar.cmpi .sge v69 c0_i32_44
  let v71 : BitVec 32 := Scalar.extui v70
  let c0_i32_45 : BitVec 32 := 0#32
  let v72 : BitVec 1 := Scalar.cmpi .ne v71 c0_i32_45
  v72

def k0_off29 (i : grid0.Coords) : Fin 2 → Nat :=
  let arg0 : BitVec 32 := BitVec.ofNat 32 (i 0).val
  let c2_i32_43 : BitVec 32 := 2#32
  let v69 : BitVec 32 := Scalar.subi arg0 c2_i32_43
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v69 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c0_i32_63 : BitVec 32 := 0#32
  ![v90.toNat, 0]
def k0_off30 (i : grid0.Coords) : Fin 3 → Nat :=
  let c0_i32_62 : BitVec 32 := 0#32
  let arg0 : BitVec 32 := BitVec.ofNat 32 (i 0).val
  let c2_i32_43 : BitVec 32 := 2#32
  let v69 : BitVec 32 := Scalar.subi arg0 c2_i32_43
  let c512_i32_58 : BitVec 32 := 512#32
  let v91 : BitVec 32 := Scalar.muli v69 c512_i32_58
  let c0_i32_64 : BitVec 32 := 0#32
  ![0, v91.toNat, 0]
def k0_off31 (i : grid0.Coords) : Fin 3 → Nat :=
  let arg0 : BitVec 32 := BitVec.ofNat 32 (i 0).val
  let c2_i32_43 : BitVec 32 := 2#32
  let v69 : BitVec 32 := Scalar.subi arg0 c2_i32_43
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v69 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c0_i32_65 : BitVec 32 := 0#32
  let c0_i32_66 : BitVec 32 := 0#32
  ![v90.toNat, 0, 0]
def k0_off32 (i : grid0.Coords) : Fin 2 → Nat :=
  let arg0 : BitVec 32 := BitVec.ofNat 32 (i 0).val
  let c2_i32_43 : BitVec 32 := 2#32
  let v69 : BitVec 32 := Scalar.subi arg0 c2_i32_43
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v69 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c1_i32_68 : BitVec 32 := 1#32
  ![v90.toNat, 1]
def k0_off33 (i : grid0.Coords) : Fin 3 → Nat :=
  let c1_i32_67 : BitVec 32 := 1#32
  let arg0 : BitVec 32 := BitVec.ofNat 32 (i 0).val
  let c2_i32_43 : BitVec 32 := 2#32
  let v69 : BitVec 32 := Scalar.subi arg0 c2_i32_43
  let c512_i32_59 : BitVec 32 := 512#32
  let v92 : BitVec 32 := Scalar.muli v69 c512_i32_59
  let c0_i32_69 : BitVec 32 := 0#32
  ![1, v92.toNat, 0]
def k0_off34 (i : grid0.Coords) : Fin 2 → Nat :=
  let arg0 : BitVec 32 := BitVec.ofNat 32 (i 0).val
  let c2_i32_43 : BitVec 32 := 2#32
  let v69 : BitVec 32 := Scalar.subi arg0 c2_i32_43
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v69 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c2_i32_73 : BitVec 32 := 2#32
  ![v90.toNat, 2]
def k0_off35 (i : grid0.Coords) : Fin 3 → Nat :=
  let c2_i32_72 : BitVec 32 := 2#32
  let arg0 : BitVec 32 := BitVec.ofNat 32 (i 0).val
  let c2_i32_43 : BitVec 32 := 2#32
  let v69 : BitVec 32 := Scalar.subi arg0 c2_i32_43
  let c512_i32_60 : BitVec 32 := 512#32
  let v93 : BitVec 32 := Scalar.muli v69 c512_i32_60
  let c0_i32_74 : BitVec 32 := 0#32
  ![2, v93.toNat, 0]
def k0_off36 (i : grid0.Coords) : Fin 2 → Nat :=
  let arg0 : BitVec 32 := BitVec.ofNat 32 (i 0).val
  let c2_i32_43 : BitVec 32 := 2#32
  let v69 : BitVec 32 := Scalar.subi arg0 c2_i32_43
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v69 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c3_i32_78 : BitVec 32 := 3#32
  ![v90.toNat, 3]
def k0_off37 (i : grid0.Coords) : Fin 3 → Nat :=
  let c3_i32_77 : BitVec 32 := 3#32
  let arg0 : BitVec 32 := BitVec.ofNat 32 (i 0).val
  let c2_i32_43 : BitVec 32 := 2#32
  let v69 : BitVec 32 := Scalar.subi arg0 c2_i32_43
  let c512_i32_61 : BitVec 32 := 512#32
  let v94 : BitVec 32 := Scalar.muli v69 c512_i32_61
  let c0_i32_79 : BitVec 32 := 0#32
  ![3, v94.toNat, 0]
def k0_cond5 (i : grid0.Coords) : BitVec 1 :=
  let arg0 : BitVec 32 := BitVec.ofNat 32 (i 0).val
  let c1_i32_46 : BitVec 32 := 1#32
  let v73 : BitVec 32 := Scalar.subi arg0 c1_i32_46
  let c0_i32_47 : BitVec 32 := 0#32
  let v74 : BitVec 1 := Scalar.cmpi .sge v73 c0_i32_47
  let v75 : BitVec 32 := Scalar.extui v74
  let c0_i32_48 : BitVec 32 := 0#32
  let v76 : BitVec 1 := Scalar.cmpi .ne v75 c0_i32_48
  v76

def k0_off38 (i : grid0.Coords) : Fin 2 → Nat :=
  let arg0 : BitVec 32 := BitVec.ofNat 32 (i 0).val
  let c1_i32_46 : BitVec 32 := 1#32
  let v73 : BitVec 32 := Scalar.subi arg0 c1_i32_46
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v73 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c0_i32_63 : BitVec 32 := 0#32
  ![v90.toNat, 0]
def k0_off39 (i : grid0.Coords) : Fin 3 → Nat :=
  let c0_i32_62 : BitVec 32 := 0#32
  let arg0 : BitVec 32 := BitVec.ofNat 32 (i 0).val
  let c1_i32_46 : BitVec 32 := 1#32
  let v73 : BitVec 32 := Scalar.subi arg0 c1_i32_46
  let c512_i32_58 : BitVec 32 := 512#32
  let v91 : BitVec 32 := Scalar.muli v73 c512_i32_58
  let c0_i32_64 : BitVec 32 := 0#32
  ![0, v91.toNat, 0]
def k0_off40 (i : grid0.Coords) : Fin 3 → Nat :=
  let arg0 : BitVec 32 := BitVec.ofNat 32 (i 0).val
  let c1_i32_46 : BitVec 32 := 1#32
  let v73 : BitVec 32 := Scalar.subi arg0 c1_i32_46
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v73 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c0_i32_65 : BitVec 32 := 0#32
  let c0_i32_66 : BitVec 32 := 0#32
  ![v90.toNat, 0, 0]
def k0_off41 (i : grid0.Coords) : Fin 2 → Nat :=
  let arg0 : BitVec 32 := BitVec.ofNat 32 (i 0).val
  let c1_i32_46 : BitVec 32 := 1#32
  let v73 : BitVec 32 := Scalar.subi arg0 c1_i32_46
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v73 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c1_i32_68 : BitVec 32 := 1#32
  ![v90.toNat, 1]
def k0_off42 (i : grid0.Coords) : Fin 3 → Nat :=
  let c1_i32_67 : BitVec 32 := 1#32
  let arg0 : BitVec 32 := BitVec.ofNat 32 (i 0).val
  let c1_i32_46 : BitVec 32 := 1#32
  let v73 : BitVec 32 := Scalar.subi arg0 c1_i32_46
  let c512_i32_59 : BitVec 32 := 512#32
  let v92 : BitVec 32 := Scalar.muli v73 c512_i32_59
  let c0_i32_69 : BitVec 32 := 0#32
  ![1, v92.toNat, 0]
def k0_off43 (i : grid0.Coords) : Fin 2 → Nat :=
  let arg0 : BitVec 32 := BitVec.ofNat 32 (i 0).val
  let c1_i32_46 : BitVec 32 := 1#32
  let v73 : BitVec 32 := Scalar.subi arg0 c1_i32_46
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v73 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c2_i32_73 : BitVec 32 := 2#32
  ![v90.toNat, 2]
def k0_off44 (i : grid0.Coords) : Fin 3 → Nat :=
  let c2_i32_72 : BitVec 32 := 2#32
  let arg0 : BitVec 32 := BitVec.ofNat 32 (i 0).val
  let c1_i32_46 : BitVec 32 := 1#32
  let v73 : BitVec 32 := Scalar.subi arg0 c1_i32_46
  let c512_i32_60 : BitVec 32 := 512#32
  let v93 : BitVec 32 := Scalar.muli v73 c512_i32_60
  let c0_i32_74 : BitVec 32 := 0#32
  ![2, v93.toNat, 0]
def k0_off45 (i : grid0.Coords) : Fin 2 → Nat :=
  let arg0 : BitVec 32 := BitVec.ofNat 32 (i 0).val
  let c1_i32_46 : BitVec 32 := 1#32
  let v73 : BitVec 32 := Scalar.subi arg0 c1_i32_46
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v73 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c3_i32_78 : BitVec 32 := 3#32
  ![v90.toNat, 3]
def k0_off46 (i : grid0.Coords) : Fin 3 → Nat :=
  let c3_i32_77 : BitVec 32 := 3#32
  let arg0 : BitVec 32 := BitVec.ofNat 32 (i 0).val
  let c1_i32_46 : BitVec 32 := 1#32
  let v73 : BitVec 32 := Scalar.subi arg0 c1_i32_46
  let c512_i32_61 : BitVec 32 := 512#32
  let v94 : BitVec 32 := Scalar.muli v73 c512_i32_61
  let c0_i32_79 : BitVec 32 := 0#32
  ![3, v94.toNat, 0]
def k0_cond6 (i : grid0.Coords) : BitVec 1 :=
  let arg0 : BitVec 32 := BitVec.ofNat 32 (i 0).val
  let c0_i32_49 : BitVec 32 := 0#32
  let v77 : BitVec 32 := Scalar.subi arg0 c0_i32_49
  let c0_i32_50 : BitVec 32 := 0#32
  let v78 : BitVec 1 := Scalar.cmpi .sge v77 c0_i32_50
  let v79 : BitVec 32 := Scalar.extui v78
  let c0_i32_51 : BitVec 32 := 0#32
  let v80 : BitVec 1 := Scalar.cmpi .ne v79 c0_i32_51
  v80

def k0_off47 (i : grid0.Coords) : Fin 2 → Nat :=
  let arg0 : BitVec 32 := BitVec.ofNat 32 (i 0).val
  let c0_i32_49 : BitVec 32 := 0#32
  let v77 : BitVec 32 := Scalar.subi arg0 c0_i32_49
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v77 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c0_i32_63 : BitVec 32 := 0#32
  ![v90.toNat, 0]
def k0_off48 (i : grid0.Coords) : Fin 3 → Nat :=
  let c0_i32_62 : BitVec 32 := 0#32
  let arg0 : BitVec 32 := BitVec.ofNat 32 (i 0).val
  let c0_i32_49 : BitVec 32 := 0#32
  let v77 : BitVec 32 := Scalar.subi arg0 c0_i32_49
  let c512_i32_58 : BitVec 32 := 512#32
  let v91 : BitVec 32 := Scalar.muli v77 c512_i32_58
  let c0_i32_64 : BitVec 32 := 0#32
  ![0, v91.toNat, 0]
def k0_off49 (i : grid0.Coords) : Fin 3 → Nat :=
  let arg0 : BitVec 32 := BitVec.ofNat 32 (i 0).val
  let c0_i32_49 : BitVec 32 := 0#32
  let v77 : BitVec 32 := Scalar.subi arg0 c0_i32_49
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v77 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c0_i32_65 : BitVec 32 := 0#32
  let c0_i32_66 : BitVec 32 := 0#32
  ![v90.toNat, 0, 0]
def k0_off50 (i : grid0.Coords) : Fin 2 → Nat :=
  let arg0 : BitVec 32 := BitVec.ofNat 32 (i 0).val
  let c0_i32_49 : BitVec 32 := 0#32
  let v77 : BitVec 32 := Scalar.subi arg0 c0_i32_49
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v77 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c1_i32_68 : BitVec 32 := 1#32
  ![v90.toNat, 1]
def k0_off51 (i : grid0.Coords) : Fin 3 → Nat :=
  let c1_i32_67 : BitVec 32 := 1#32
  let arg0 : BitVec 32 := BitVec.ofNat 32 (i 0).val
  let c0_i32_49 : BitVec 32 := 0#32
  let v77 : BitVec 32 := Scalar.subi arg0 c0_i32_49
  let c512_i32_59 : BitVec 32 := 512#32
  let v92 : BitVec 32 := Scalar.muli v77 c512_i32_59
  let c0_i32_69 : BitVec 32 := 0#32
  ![1, v92.toNat, 0]
def k0_off52 (i : grid0.Coords) : Fin 2 → Nat :=
  let arg0 : BitVec 32 := BitVec.ofNat 32 (i 0).val
  let c0_i32_49 : BitVec 32 := 0#32
  let v77 : BitVec 32 := Scalar.subi arg0 c0_i32_49
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v77 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c2_i32_73 : BitVec 32 := 2#32
  ![v90.toNat, 2]
def k0_off53 (i : grid0.Coords) : Fin 3 → Nat :=
  let c2_i32_72 : BitVec 32 := 2#32
  let arg0 : BitVec 32 := BitVec.ofNat 32 (i 0).val
  let c0_i32_49 : BitVec 32 := 0#32
  let v77 : BitVec 32 := Scalar.subi arg0 c0_i32_49
  let c512_i32_60 : BitVec 32 := 512#32
  let v93 : BitVec 32 := Scalar.muli v77 c512_i32_60
  let c0_i32_74 : BitVec 32 := 0#32
  ![2, v93.toNat, 0]
def k0_off54 (i : grid0.Coords) : Fin 2 → Nat :=
  let arg0 : BitVec 32 := BitVec.ofNat 32 (i 0).val
  let c0_i32_49 : BitVec 32 := 0#32
  let v77 : BitVec 32 := Scalar.subi arg0 c0_i32_49
  let c4_i32_52 : BitVec 32 := 4#32
  let c0_i32_53 : BitVec 32 := 0#32
  let v81 : BitVec 1 := Scalar.cmpi .eq c4_i32_52 c0_i32_53
  let c1_i32_54 : BitVec 32 := 1#32
  let v82 : BitVec 32 := Scalar.select v81 c1_i32_54 c4_i32_52
  let v83 : BitVec 32 := Scalar.remsi v77 v82
  let c0_i32_56 : BitVec 32 := 0#32
  let v85 : BitVec 1 := Scalar.cmpi .slt v83 c0_i32_56
  let c0_i32_57 : BitVec 32 := 0#32
  let v86 : BitVec 1 := Scalar.cmpi .slt v82 c0_i32_57
  let v87 : BitVec 1 := Scalar.xori v85 v86
  let c0_i32_55 : BitVec 32 := 0#32
  let v84 : BitVec 1 := Scalar.cmpi .ne v83 c0_i32_55
  let v88 : BitVec 1 := Scalar.andi v87 v84
  let v89 : BitVec 32 := Scalar.addi v83 v82
  let v90 : BitVec 32 := Scalar.select v88 v89 v83
  let c3_i32_78 : BitVec 32 := 3#32
  ![v90.toNat, 3]
def k0_off55 (i : grid0.Coords) : Fin 3 → Nat :=
  let c3_i32_77 : BitVec 32 := 3#32
  let arg0 : BitVec 32 := BitVec.ofNat 32 (i 0).val
  let c0_i32_49 : BitVec 32 := 0#32
  let v77 : BitVec 32 := Scalar.subi arg0 c0_i32_49
  let c512_i32_61 : BitVec 32 := 512#32
  let v94 : BitVec 32 := Scalar.muli v77 c512_i32_61
  let c0_i32_79 : BitVec 32 := 0#32
  ![3, v94.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4x8192x1024 : Shape := ⟨3, ![4, 8192, 1024]⟩
abbrev S12288x64 : Shape := ⟨2, ![12288, 64]⟩
abbrev S64x1024 : Shape := ⟨2, ![64, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x64 : Shape := ⟨2, ![8192, 64]⟩
abbrev S8192x1024 : Shape := ⟨2, ![8192, 1024]⟩
abbrev S1x1024 : Shape := ⟨2, ![1, 1024]⟩
abbrev S1x8192x1024 : Shape := ⟨3, ![1, 8192, 1024]⟩
abbrev S1x1x1x8192x1x1024 : Shape := ⟨6, ![1, 1, 1, 8192, 1, 1024]⟩
abbrev S4x1x1x8192x1x1024 : Shape := ⟨6, ![4, 1, 1, 8192, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S12288x64, .f32⟩
  | .hbm, ⟨2, _⟩ => ⟨S64x1024, .f32⟩
  | .hbm, ⟨3, _⟩ => ⟨S1024, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x64, .f32⟩
  | .hbm, ⟨24, _⟩ => ⟨S8192x64, .i1⟩
  | .hbm, ⟨25, _⟩ => ⟨S_, .f32⟩
  | .hbm, ⟨26, _⟩ => ⟨S8192x64, .f32⟩
  | .hbm, ⟨27, _⟩ => ⟨S8192x64, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x8192x1024, .f32⟩
  | .hbm, ⟨33, _⟩ => ⟨S1x1x1x8192x1x1024, .f32⟩
  | .hbm, ⟨34, _⟩ => ⟨S4x1x1x8192x1x1024, .f32⟩
  | .hbm, ⟨35, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]
-- ==== Proof.Same.lean ====
/-
  The kernel and its idealization are the same text read at two kinds of float, so what is proved of the one text at
  every kind of float is proved of both.
-/
module

public import proofs.«01_k».proof.Proof.Gen.KernelIdeal.Frame
public import proofs.«01_k».proof.Proof.Gen.Kernel.Frame
public import proofs.«01_k».proof.Defs

@[expose] public section

set_option maxRecDepth 65536

noncomputable section

namespace Cert.Proof.S

open Idealize.ShloMosaic Idealize.SL.Sem

variable {F : FTy → Type} [FloatOps F] [h : Cert.Kernel.Facts] [h' : Cert.KernelIdeal.Facts]

/-- The two programs' inner procedures are the same. -/
theorem defs0Eq : @Cert.Kernel.defs₀ F _ h = @Cert.KernelIdeal.defs₀ F _ h' := by
  refine congrArg Defs.onTc (funext fun l => funext fun a => ?_)
  match l, a with
  | 0, (t, s) => rfl

/-- The two programs' procedures are the same, the pipeline's included. -/
theorem defsEq : @Cert.Kernel.defs F _ h = @Cert.KernelIdeal.defs F _ h' :=
  congrArg (fun d => Pipeline.defs (Cert.KernelIdeal.pcfgs (F := F)) d) defs0Eq

/-- The two programs' main functions are the same. -/
theorem mainEq : @Cert.Kernel.main F _ = @Cert.KernelIdeal.main F _ := rfl

/-- The kernel's frame, from the idealized text's frame at the machine's floats. -/
theorem quiescent_of
    (H : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) : Cert.quiescent_Kernel := by
  intro m g _
  rw [defsEq, mainEq]
  exact H m g

end Cert.Proof.S

end
-- ==== Proof.Formula.lean ====
/-
  What the problem asks for, as a formula: row `r` of the table times the matrix, plus the bias. It does not depend on
  the batch, so every batch of the result is the same array.
-/
module

public import Idealize.ShloMosaic.PureOps.Ideal.Laws
public import Idealize.ShloMosaic.Lib.ValueIdx

@[expose] public section

noncomputable section

namespace Cert.Proof.Formula

open Idealize.ShloMosaic Idealize.ShloMosaic.ValueIdx
open scoped BigOperators

/-- Entry `(r, d)` of the position embedding: the sum over `k` of `E[r, k] * W[k, d]`, plus `b[d]`. -/
def pos (E : FVec Ideal ⟨2, ![12288, 64]⟩ .f32) (W : FVec Ideal ⟨2, ![64, 1024]⟩ .f32) (b : FVec Ideal ⟨1, ![1024]⟩ .f32)
    (r : Fin 8192) (d : Fin 1024) : Ideal .f32 :=
  (∑ k : Fin 64, E (ix2 (⟨r.val, by omega⟩ : Fin 12288) k) * W (ix2 k d)) + b (ix1 d)

end Cert.Proof.Formula

end
-- ==== Proof.Names.lean ====
/-
  Names for the pieces of memory the kernel's own copies use, and the closed forms that put the kernel's computed
  offsets under those names: cell `csm s j` (slot `s`, copy `j`), scratch slot `rslot s`, and the piece `outP j u` of
  the result (batch row `j`, the 512 table rows of grid step `u`). Step `t` works in slot `t % 4`; from step 4 on it
  first waits for the copies of step `t - 4`, which were made from the same slot; the last step also waits for the
  copies of the three steps before it and for its own.
-/
module

public import proofs.«01_k».proof.Proof.Gen.KernelIdeal.Frame
public import proofs.«01_k».proof.Proof.Gen.KernelIdeal.Skeleton
public import Idealize.ShloMosaic.Lib.Pipeline.Routed
public import Idealize.ShloMosaic.Lib.Ring
public import Idealize.ShloMosaic.Lib.Tactic

@[expose] public section

noncomputable section

namespace Cert.Proof.Pos

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The names -/

/-- The result array, as the kernel is handed it. -/
abbrev resM : Memref sig .tc .hbm S4x8192x1024 .f32 := Memref.whole main_v1
/-- The four-slot scratch buffer. -/
abbrev bufM : Memref sig .tc .vmem S4x512x1024 .f32 := Memref.whole cc0_scratch0

/-- Where piece `(j, u)` of the result starts: row `j`, table row `512 * u`. -/
abbrev outOff (j : Fin 4) (u : Fin 16) : Fin 3 → Nat := ![j.val, 512 * u.val, 0]
theorem outOff_inb (j : Fin 4) (u : Fin 16) : ∀ a, outOff j u a + S1x512x1024.size a ≤ S4x8192x1024.size a := by
  have := j.isLt; have := u.isLt; intro a; fin_cases a
  · show j.val + 1 ≤ 4; omega
  · show 512 * u.val + 512 ≤ 8192; omega
  · show 0 + 1024 ≤ 1024; omega
/-- Where slot `s` of the scratch buffer starts. -/
abbrev slotOff (s : Fin 4) : Fin 3 → Nat := ![s.val, 0, 0]
theorem slotOff_inb (s : Fin 4) : ∀ a, slotOff s a + S1x512x1024.size a ≤ S4x512x1024.size a := by
  have := s.isLt; intro a; fin_cases a
  · show s.val + 1 ≤ 4; omega
  · show 0 + 512 ≤ 512; omega
  · show 0 + 1024 ≤ 1024; omega
/-- Where cell `(s, j)` sits among the kernel's semaphores. -/
abbrev semOff (s j : Fin 4) : Fin 2 → Nat := ![s.val, j.val]
theorem semOff_inb (s j : Fin 4) : ∀ a, semOff s j a + S1x1.size a ≤ S4x4.size a := by
  have := s.isLt; have := j.isLt; intro a; fin_cases a
  · show s.val + 1 ≤ 4; omega
  · show j.val + 1 ≤ 4; omega

/-- Piece `(j, u)` of the result, as the kernel slices and squeezes it. -/
def outP (j : Fin 4) (u : Fin 16) : Memref sig .tc .hbm S512x1024 .f32 :=
  (resM.slice (Rect.unit (s := S4x8192x1024) (outOff j u) S1x512x1024.size (outOff_inb j u)) (fun _ => rfl)).squeeze S512x1024 squeezes_S1x512x1024_S512x1024
/-- Slot `s` of the scratch buffer, as the kernel slices and squeezes it. -/
def rslot (s : Fin 4) : Memref sig .tc .vmem S512x1024 .f32 :=
  (bufM.slice (Rect.unit (s := S4x512x1024) (slotOff s) S1x512x1024.size (slotOff_inb s)) (fun _ => rfl)).squeeze S512x1024 squeezes_S1x512x1024_S512x1024
/-- The semaphore of copy `j` out of slot `s`. -/
def csm (s j : Fin 4) : DmaSems sig S_ :=
  (cc0_scratch1.slice (Rect.unit (s := S4x4) (semOff s j) S1x1.size (semOff_inb s j))).squeeze S_ squeezes_S1x1_S_

instance (s : Fin 4) : ClosedOff (slotOff s) := ⟨slotOff s, rfl⟩
instance (j : Fin 4) (u : Fin 16) : ClosedOff (outOff j u) := ⟨outOff j u, rfl⟩

/-! ## The grid step and the conditions on it -/

/-- The grid step as a number. -/
abbrev st (i : grid0.Coords) : ℕ := (i 0).val
theorem st_lt (i : grid0.Coords) : st i < 16 := (i 0).isLt
/-- The step waits for an earlier step's copies from step 4 on; -/
theorem cond1_iff : ∀ i : grid0.Coords, k0_cond1 i = 1#1 ↔ 4 ≤ st i := by decide +kernel
/-- the last step is step 15, -/
theorem cond2_iff : ∀ i : grid0.Coords, k0_cond2 i = 1#1 ↔ st i = 15 := by decide +kernel
/-- and there the four steps it drains exist. -/
theorem cond36_of : ∀ i : grid0.Coords, st i = 15 → k0_cond3 i = 1#1 ∧ k0_cond4 i = 1#1 ∧ k0_cond5 i = 1#1 ∧ k0_cond6 i = 1#1 := by
  decide +kernel

/-! ## The kernel's slices under these names -/

/-- The kernel's three ways to slice at computed offsets: a cell, -/
abbrev semAt (off : Fin 2 → Nat) (hh : ∀ a, off a + S1x1.size a ≤ S4x4.size a) : DmaSems sig S_ :=
  (cc0_scratch1.slice (Rect.unit (s := S4x4) off S1x1.size hh)).squeeze S_ squeezes_S1x1_S_
/-- a slot of the scratch buffer, -/
abbrev slotAt (off : Fin 3 → Nat) (hh : ∀ a, off a + S1x512x1024.size a ≤ S4x512x1024.size a) : Memref sig .tc .vmem S512x1024 .f32 :=
  (bufM.slice (Rect.unit (s := S4x512x1024) off S1x512x1024.size hh) (fun _ => rfl)).squeeze S512x1024 squeezes_S1x512x1024_S512x1024
/-- a piece of the result. -/
abbrev outAt (off : Fin 3 → Nat) (hh : ∀ a, off a + S1x512x1024.size a ≤ S4x8192x1024.size a) : Memref sig .tc .hbm S512x1024 .f32 :=
  (resM.slice (Rect.unit (s := S4x8192x1024) off S1x512x1024.size hh) (fun _ => rfl)).squeeze S512x1024 squeezes_S1x512x1024_S512x1024

theorem csm_congr {off : Fin 2 → Nat} {s j : Fin 4} (e : off = semOff s j) (hh) : semAt off hh = csm s j :=
  congrArg (fun A : DmaSems sig S1x1 => A.squeeze S_ squeezes_S1x1_S_) (SemArray.slice_unit_congr _ e _ _)
theorem rslot_congr {off : Fin 3 → Nat} {s : Fin 4} (e : off = slotOff s) (hh) : slotAt off hh = rslot s :=
  congrArg (fun M : Memref sig .tc .vmem S1x512x1024 .f32 => M.squeeze S512x1024 squeezes_S1x512x1024_S512x1024) (Memref.slice_unit_congr _ e _ _ _ _)
theorem outP_congr {off : Fin 3 → Nat} {j : Fin 4} {u : Fin 16} (e : off = outOff j u) (hh) : outAt off hh = outP j u :=
  congrArg (fun M : Memref sig .tc .hbm S1x512x1024 .f32 => M.squeeze S512x1024 squeezes_S1x512x1024_S512x1024) (Memref.slice_unit_congr _ e _ _ _ _)

section Canon
variable (i : grid0.Coords)

/-! The copies the step starts. -/

@[sl_canon] theorem semS0 (hh) : semAt (k0_off11 i) hh = csm (Ring.sl 4 (st i)) 0 :=
  csm_congr ((by decide +kernel : ∀ i : grid0.Coords, k0_off11 i = semOff (Ring.sl 4 (st i)) 0) i) hh
@[sl_canon] theorem outS0 (hh) : outAt (k0_off12 i) hh = outP 0 (Ring.bk 16 (st i)) :=
  outP_congr ((by decide +kernel : ∀ i : grid0.Coords, k0_off12 i = outOff 0 (Ring.bk 16 (st i))) i) hh
@[sl_canon] theorem semS1 (hh) : semAt (k0_off14 i) hh = csm (Ring.sl 4 (st i)) 1 :=
  csm_congr ((by decide +kernel : ∀ i : grid0.Coords, k0_off14 i = semOff (Ring.sl 4 (st i)) 1) i) hh
@[sl_canon] theorem outS1 (hh) : outAt (k0_off15 i) hh = outP 1 (Ring.bk 16 (st i)) :=
  outP_congr ((by decide +kernel : ∀ i : grid0.Coords, k0_off15 i = outOff 1 (Ring.bk 16 (st i))) i) hh
@[sl_canon] theorem semS2 (hh) : semAt (k0_off16 i) hh = csm (Ring.sl 4 (st i)) 2 :=
  csm_congr ((by decide +kernel : ∀ i : grid0.Coords, k0_off16 i = semOff (Ring.sl 4 (st i)) 2) i) hh
@[sl_canon] theorem outS2 (hh) : outAt (k0_off17 i) hh = outP 2 (Ring.bk 16 (st i)) :=
  outP_congr ((by decide +kernel : ∀ i : grid0.Coords, k0_off17 i = outOff 2 (Ring.bk 16 (st i))) i) hh
@[sl_canon] theorem semS3 (hh) : semAt (k0_off18 i) hh = csm (Ring.sl 4 (st i)) 3 :=
  csm_congr ((by decide +kernel : ∀ i : grid0.Coords, k0_off18 i = semOff (Ring.sl 4 (st i)) 3) i) hh
@[sl_canon] theorem outS3 (hh) : outAt (k0_off19 i) hh = outP 3 (Ring.bk 16 (st i)) :=
  outP_congr ((by decide +kernel : ∀ i : grid0.Coords, k0_off19 i = outOff 3 (Ring.bk 16 (st i))) i) hh
@[sl_canon] theorem slotS (hh) : slotAt (k0_off13 i) hh = rslot (Ring.sl 4 (st i)) :=
  rslot_congr ((by decide +kernel : ∀ i : grid0.Coords, k0_off13 i = slotOff (Ring.sl 4 (st i))) i) hh

/-! The copies of four steps before, waited for from step 4 on: made out of the same slot. -/

@[sl_canon] theorem semW0 (h : k0_cond1 i = 1#1) (hh) : semAt (k0_off1 i) hh = csm (Ring.sl 4 (st i)) 0 :=
  csm_congr ((by decide +kernel : ∀ i : grid0.Coords, k0_cond1 i = 1#1 → k0_off1 i = semOff (Ring.sl 4 (st i)) 0) i h) hh
@[sl_canon] theorem outW0 (h : k0_cond1 i = 1#1) (hh) : outAt (k0_off2 i) hh = outP 0 (Ring.bk 16 (st i - 4)) :=
  outP_congr ((by decide +kernel : ∀ i : grid0.Coords, k0_cond1 i = 1#1 → k0_off2 i = outOff 0 (Ring.bk 16 (st i - 4))) i h) hh
@[sl_canon] theorem semW1 (h : k0_cond1 i = 1#1) (hh) : semAt (k0_off4 i) hh = csm (Ring.sl 4 (st i)) 1 :=
  csm_congr ((by decide +kernel : ∀ i : grid0.Coords, k0_cond1 i = 1#1 → k0_off4 i = semOff (Ring.sl 4 (st i)) 1) i h) hh
@[sl_canon] theorem outW1 (h : k0_cond1 i = 1#1) (hh) : outAt (k0_off5 i) hh = outP 1 (Ring.bk 16 (st i - 4)) :=
  outP_congr ((by decide +kernel : ∀ i : grid0.Coords, k0_cond1 i = 1#1 → k0_off5 i = outOff 1 (Ring.bk 16 (st i - 4))) i h) hh
@[sl_canon] theorem semW2 (h : k0_cond1 i = 1#1) (hh) : semAt (k0_off6 i) hh = csm (Ring.sl 4 (st i)) 2 :=
  csm_congr ((by decide +kernel : ∀ i : grid0.Coords, k0_cond1 i = 1#1 → k0_off6 i = semOff (Ring.sl 4 (st i)) 2) i h) hh
@[sl_canon] theorem outW2 (h : k0_cond1 i = 1#1) (hh) : outAt (k0_off7 i) hh = outP 2 (Ring.bk 16 (st i - 4)) :=
  outP_congr ((by decide +kernel : ∀ i : grid0.Coords, k0_cond1 i = 1#1 → k0_off7 i = outOff 2 (Ring.bk 16 (st i - 4))) i h) hh
@[sl_canon] theorem semW3 (h : k0_cond1 i = 1#1) (hh) : semAt (k0_off8 i) hh = csm (Ring.sl 4 (st i)) 3 :=
  csm_congr ((by decide +kernel : ∀ i : grid0.Coords, k0_cond1 i = 1#1 → k0_off8 i = semOff (Ring.sl 4 (st i)) 3) i h) hh
@[sl_canon] theorem outW3 (h : k0_cond1 i = 1#1) (hh) : outAt (k0_off9 i) hh = outP 3 (Ring.bk 16 (st i - 4)) :=
  outP_congr ((by decide +kernel : ∀ i : grid0.Coords, k0_cond1 i = 1#1 → k0_off9 i = outOff 3 (Ring.bk 16 (st i - 4))) i h) hh
@[sl_canon] theorem slotW (h : k0_cond1 i = 1#1) (hh) : slotAt (k0_off3 i) hh = rslot (Ring.sl 4 (st i)) :=
  rslot_congr ((by decide +kernel : ∀ i : grid0.Coords, k0_cond1 i = 1#1 → k0_off3 i = slotOff (Ring.sl 4 (st i))) i h) hh

/-! The last step's waits for step 12's copies. -/

@[sl_canon] theorem semA0 (h : k0_cond2 i = 1#1) (hh) : semAt (k0_off20 i) hh = csm (Ring.sl 4 (st i + 1)) 0 :=
  csm_congr ((by decide +kernel : ∀ i : grid0.Coords, k0_cond2 i = 1#1 → k0_off20 i = semOff (Ring.sl 4 (st i + 1)) 0) i h) hh
@[sl_canon] theorem outA0 (h : k0_cond2 i = 1#1) (hh) : outAt (k0_off21 i) hh = outP 0 (Ring.bk 16 (st i + 1 - 4)) :=
  outP_congr ((by decide +kernel : ∀ i : grid0.Coords, k0_cond2 i = 1#1 → k0_off21 i = outOff 0 (Ring.bk 16 (st i + 1 - 4))) i h) hh
@[sl_canon] theorem semA1 (h : k0_cond2 i = 1#1) (hh) : semAt (k0_off23 i) hh = csm (Ring.sl 4 (st i + 1)) 1 :=
  csm_congr ((by decide +kernel : ∀ i : grid0.Coords, k0_cond2 i = 1#1 → k0_off23 i = semOff (Ring.sl 4 (st i + 1)) 1) i h) hh
@[sl_canon] theorem outA1 (h : k0_cond2 i = 1#1) (hh) : outAt (k0_off24 i) hh = outP 1 (Ring.bk 16 (st i + 1 - 4)) :=
  outP_congr ((by decide +kernel : ∀ i : grid0.Coords, k0_cond2 i = 1#1 → k0_off24 i = outOff 1 (Ring.bk 16 (st i + 1 - 4))) i h) hh
@[sl_canon] theorem semA2 (h : k0_cond2 i = 1#1) (hh) : semAt (k0_off25 i) hh = csm (Ring.sl 4 (st i + 1)) 2 :=
  csm_congr ((by decide +kernel : ∀ i : grid0.Coords, k0_cond2 i = 1#1 → k0_off25 i = semOff (Ring.sl 4 (st i + 1)) 2) i h) hh
@[sl_canon] theorem outA2 (h : k0_cond2 i = 1#1) (hh) : outAt (k0_off26 i) hh = outP 2 (Ring.bk 16 (st i + 1 - 4)) :=
  outP_congr ((by decide +kernel : ∀ i : grid0.Coords, k0_cond2 i = 1#1 → k0_off26 i = outOff 2 (Ring.bk 16 (st i + 1 - 4))) i h) hh
@[sl_canon] theorem semA3 (h : k0_cond2 i = 1#1) (hh) : semAt (k0_off27 i) hh = csm (Ring.sl 4 (st i + 1)) 3 :=
  csm_congr ((by decide +kernel : ∀ i : grid0.Coords, k0_cond2 i = 1#1 → k0_off27 i = semOff (Ring.sl 4 (st i + 1)) 3) i h) hh
@[sl_canon] theorem outA3 (h : k0_cond2 i = 1#1) (hh) : outAt (k0_off28 i) hh = outP 3 (Ring.bk 16 (st i + 1 - 4)) :=
  outP_congr ((by decide +kernel : ∀ i : grid0.Coords, k0_cond2 i = 1#1 → k0_off28 i = outOff 3 (Ring.bk 16 (st i + 1 - 4))) i h) hh
@[sl_canon] theorem slotA (h : k0_cond2 i = 1#1) (hh) : slotAt (k0_off22 i) hh = rslot (Ring.sl 4 (st i + 1)) :=
  rslot_congr ((by decide +kernel : ∀ i : grid0.Coords, k0_cond2 i = 1#1 → k0_off22 i = slotOff (Ring.sl 4 (st i + 1))) i h) hh

/-! The last step's waits for step 13's copies. -/

@[sl_canon] theorem semB0 (h : k0_cond2 i = 1#1) (hh) : semAt (k0_off29 i) hh = csm (Ring.sl 4 (st i + 2)) 0 :=
  csm_congr ((by decide +kernel : ∀ i : grid0.Coords, k0_cond2 i = 1#1 → k0_off29 i = semOff (Ring.sl 4 (st i + 2)) 0) i h) hh
@[sl_canon] theorem outB0 (h : k0_cond2 i = 1#1) (hh) : outAt (k0_off30 i) hh = outP 0 (Ring.bk 16 (st i + 2 - 4)) :=
  outP_congr ((by decide +kernel : ∀ i : grid0.Coords, k0_cond2 i = 1#1 → k0_off30 i = outOff 0 (Ring.bk 16 (st i + 2 - 4))) i h) hh
@[sl_canon] theorem semB1 (h : k0_cond2 i = 1#1) (hh) : semAt (k0_off32 i) hh = csm (Ring.sl 4 (st i + 2)) 1 :=
  csm_congr ((by decide +kernel : ∀ i : grid0.Coords, k0_cond2 i = 1#1 → k0_off32 i = semOff (Ring.sl 4 (st i + 2)) 1) i h) hh
@[sl_canon] theorem outB1 (h : k0_cond2 i = 1#1) (hh) : outAt (k0_off33 i) hh = outP 1 (Ring.bk 16 (st i + 2 - 4)) :=
  outP_congr ((by decide +kernel : ∀ i : grid0.Coords, k0_cond2 i = 1#1 → k0_off33 i = outOff 1 (Ring.bk 16 (st i + 2 - 4))) i h) hh
@[sl_canon] theorem semB2 (h : k0_cond2 i = 1#1) (hh) : semAt (k0_off34 i) hh = csm (Ring.sl 4 (st i + 2)) 2 :=
  csm_congr ((by decide +kernel : ∀ i : grid0.Coords, k0_cond2 i = 1#1 → k0_off34 i = semOff (Ring.sl 4 (st i + 2)) 2) i h) hh
@[sl_canon] theorem outB2 (h : k0_cond2 i = 1#1) (hh) : outAt (k0_off35 i) hh = outP 2 (Ring.bk 16 (st i + 2 - 4)) :=
  outP_congr ((by decide +kernel : ∀ i : grid0.Coords, k0_cond2 i = 1#1 → k0_off35 i = outOff 2 (Ring.bk 16 (st i + 2 - 4))) i h) hh
@[sl_canon] theorem semB3 (h : k0_cond2 i = 1#1) (hh) : semAt (k0_off36 i) hh = csm (Ring.sl 4 (st i + 2)) 3 :=
  csm_congr ((by decide +kernel : ∀ i : grid0.Coords, k0_cond2 i = 1#1 → k0_off36 i = semOff (Ring.sl 4 (st i + 2)) 3) i h) hh
@[sl_canon] theorem outB3 (h : k0_cond2 i = 1#1) (hh) : outAt (k0_off37 i) hh = outP 3 (Ring.bk 16 (st i + 2 - 4)) :=
  outP_congr ((by decide +kernel : ∀ i : grid0.Coords, k0_cond2 i = 1#1 → k0_off37 i = outOff 3 (Ring.bk 16 (st i + 2 - 4))) i h) hh
@[sl_canon] theorem slotB (h : k0_cond2 i = 1#1) (hh) : slotAt (k0_off31 i) hh = rslot (Ring.sl 4 (st i + 2)) :=
  rslot_congr ((by decide +kernel : ∀ i : grid0.Coords, k0_cond2 i = 1#1 → k0_off31 i = slotOff (Ring.sl 4 (st i + 2))) i h) hh

/-! The last step's waits for step 14's copies. -/

@[sl_canon] theorem semC0 (h : k0_cond2 i = 1#1) (hh) : semAt (k0_off38 i) hh = csm (Ring.sl 4 (st i + 3)) 0 :=
  csm_congr ((by decide +kernel : ∀ i : grid0.Coords, k0_cond2 i = 1#1 → k0_off38 i = semOff (Ring.sl 4 (st i + 3)) 0) i h) hh
@[sl_canon] theorem outC0 (h : k0_cond2 i = 1#1) (hh) : outAt (k0_off39 i) hh = outP 0 (Ring.bk 16 (st i + 3 - 4)) :=
  outP_congr ((by decide +kernel : ∀ i : grid0.Coords, k0_cond2 i = 1#1 → k0_off39 i = outOff 0 (Ring.bk 16 (st i + 3 - 4))) i h) hh
@[sl_canon] theorem semC1 (h : k0_cond2 i = 1#1) (hh) : semAt (k0_off41 i) hh = csm (Ring.sl 4 (st i + 3)) 1 :=
  csm_congr ((by decide +kernel : ∀ i : grid0.Coords, k0_cond2 i = 1#1 → k0_off41 i = semOff (Ring.sl 4 (st i + 3)) 1) i h) hh
@[sl_canon] theorem outC1 (h : k0_cond2 i = 1#1) (hh) : outAt (k0_off42 i) hh = outP 1 (Ring.bk 16 (st i + 3 - 4)) :=
  outP_congr ((by decide +kernel : ∀ i : grid0.Coords, k0_cond2 i = 1#1 → k0_off42 i = outOff 1 (Ring.bk 16 (st i + 3 - 4))) i h) hh
@[sl_canon] theorem semC2 (h : k0_cond2 i = 1#1) (hh) : semAt (k0_off43 i) hh = csm (Ring.sl 4 (st i + 3)) 2 :=
  csm_congr ((by decide +kernel : ∀ i : grid0.Coords, k0_cond2 i = 1#1 → k0_off43 i = semOff (Ring.sl 4 (st i + 3)) 2) i h) hh
@[sl_canon] theorem outC2 (h : k0_cond2 i = 1#1) (hh) : outAt (k0_off44 i) hh = outP 2 (Ring.bk 16 (st i + 3 - 4)) :=
  outP_congr ((by decide +kernel : ∀ i : grid0.Coords, k0_cond2 i = 1#1 → k0_off44 i = outOff 2 (Ring.bk 16 (st i + 3 - 4))) i h) hh
@[sl_canon] theorem semC3 (h : k0_cond2 i = 1#1) (hh) : semAt (k0_off45 i) hh = csm (Ring.sl 4 (st i + 3)) 3 :=
  csm_congr ((by decide +kernel : ∀ i : grid0.Coords, k0_cond2 i = 1#1 → k0_off45 i = semOff (Ring.sl 4 (st i + 3)) 3) i h) hh
@[sl_canon] theorem outC3 (h : k0_cond2 i = 1#1) (hh) : outAt (k0_off46 i) hh = outP 3 (Ring.bk 16 (st i + 3 - 4)) :=
  outP_congr ((by decide +kernel : ∀ i : grid0.Coords, k0_cond2 i = 1#1 → k0_off46 i = outOff 3 (Ring.bk 16 (st i + 3 - 4))) i h) hh
@[sl_canon] theorem slotC (h : k0_cond2 i = 1#1) (hh) : slotAt (k0_off40 i) hh = rslot (Ring.sl 4 (st i + 3)) :=
  rslot_congr ((by decide +kernel : ∀ i : grid0.Coords, k0_cond2 i = 1#1 → k0_off40 i = slotOff (Ring.sl 4 (st i + 3))) i h) hh

/-! The last step's waits for its own copies. -/

@[sl_canon] theorem semD0 (hh) : semAt (k0_off47 i) hh = csm (Ring.sl 4 (st i)) 0 :=
  csm_congr ((by decide +kernel : ∀ i : grid0.Coords, k0_off47 i = semOff (Ring.sl 4 (st i)) 0) i) hh
@[sl_canon] theorem outD0 (hh) : outAt (k0_off48 i) hh = outP 0 (Ring.bk 16 (st i)) :=
  outP_congr ((by decide +kernel : ∀ i : grid0.Coords, k0_off48 i = outOff 0 (Ring.bk 16 (st i))) i) hh
@[sl_canon] theorem semD1 (hh) : semAt (k0_off50 i) hh = csm (Ring.sl 4 (st i)) 1 :=
  csm_congr ((by decide +kernel : ∀ i : grid0.Coords, k0_off50 i = semOff (Ring.sl 4 (st i)) 1) i) hh
@[sl_canon] theorem outD1 (hh) : outAt (k0_off51 i) hh = outP 1 (Ring.bk 16 (st i)) :=
  outP_congr ((by decide +kernel : ∀ i : grid0.Coords, k0_off51 i = outOff 1 (Ring.bk 16 (st i))) i) hh
@[sl_canon] theorem semD2 (hh) : semAt (k0_off52 i) hh = csm (Ring.sl 4 (st i)) 2 :=
  csm_congr ((by decide +kernel : ∀ i : grid0.Coords, k0_off52 i = semOff (Ring.sl 4 (st i)) 2) i) hh
@[sl_canon] theorem outD2 (hh) : outAt (k0_off53 i) hh = outP 2 (Ring.bk 16 (st i)) :=
  outP_congr ((by decide +kernel : ∀ i : grid0.Coords, k0_off53 i = outOff 2 (Ring.bk 16 (st i))) i) hh
@[sl_canon] theorem semD3 (hh) : semAt (k0_off54 i) hh = csm (Ring.sl 4 (st i)) 3 :=
  csm_congr ((by decide +kernel : ∀ i : grid0.Coords, k0_off54 i = semOff (Ring.sl 4 (st i)) 3) i) hh
@[sl_canon] theorem outD3 (hh) : outAt (k0_off55 i) hh = outP 3 (Ring.bk 16 (st i)) :=
  outP_congr ((by decide +kernel : ∀ i : grid0.Coords, k0_off55 i = outOff 3 (Ring.bk 16 (st i))) i) hh
@[sl_canon] theorem slotD (hh) : slotAt (k0_off49 i) hh = rslot (Ring.sl 4 (st i)) :=
  rslot_congr ((by decide +kernel : ∀ i : grid0.Coords, k0_off49 i = slotOff (Ring.sl 4 (st i))) i) hh

/-- The slot the step stores its block into. -/
theorem off10_eq : ∀ i : grid0.Coords, k0_off10 i = slotOff (Ring.sl 4 (st i)) := by decide +kernel
instance : ClosedOff (k0_off10 i) := ⟨slotOff (Ring.sl 4 (st i)), off10_eq i⟩

end Canon

end Cert.Proof.Pos

end
-- ==== Proof.Body.lean ====
/-
  The kernel's body, run once in each of its three kinds of step. In a step before the fourth the slot it works in is
  idle: it stores its block there and starts four copies out of it. From step 4 on the four copies of four steps
  before are first waited for. The last step, also, waits for every copy still under way, its own included.

  A slot's copies each hold a share of the slot, to be handed back when the copy is waited for; the rest
  of the slot stays with the kernel.
-/
module

public import proofs.«01_k».proof.Proof.Names
public import Idealize.ShloMosaic.Lib.VecWindow
public import Idealize.ShloMosaic.Lib.ViewIndex

@[expose] public section

noncomputable section

namespace Cert.Proof.Pos

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions this proof speaks in. -/
local notation "𝕄" => MT nD τ sig Unit (Elt F) ℕ (Pipeline.UC sig nD τ) ℕ

section Pieces
variable (c : Dev nD)

/-! ## What a step holds -/

/-- Cell `(s, j)` at rest. -/
abbrev cellP (s j : Fin 4) : sProp 𝕄 := semVal ((c : Thread nD τ), SemLoc.dma (csm s j).sem) 0
/-- Share `q` of slot `s`, whose elements are those of `f`. -/
abbrev slotP (s : Fin 4) (q : PosShare TreeShare) (f : Buf (Elt F) ((rslot s).view.loc (c : Thread nD τ))) : sProp 𝕄 :=
  (rslot s).view.loc (c : Thread nD τ) ↦[(rslot s).view.set]{q} f
/-- Piece `(j, u)` of the result, whose elements are those of `f`. -/
abbrev outPt (j : Fin 4) (u : Fin 16) (f : Buf (Elt F) ((outP j u).view.loc (c : Thread nD τ))) : sProp 𝕄 :=
  (outP j u).view.loc (c : Thread nD τ) ↦[(outP j u).view.set]{fullShare} f
/-- A staging buffer, whose elements are those of `f`. -/
abbrev stgPt {S : Shape} (M : Memref sig .tc .vmem S .f32) (f : Buf (Elt F) (M.view.loc (c : Thread nD τ))) : sProp 𝕄 :=
  M.view.loc (c : Thread nD τ) ↦[M.view.set]{fullShare} f

/-- Copy `j` out of slot `s` to piece `(j, u)`, under way: when waited for it hands over the piece, which then holds its
    part of `Y`, and share `q` of the slot. -/
abbrev fltP (Y : Buf (Elt F) (resM.view.loc (c : Thread nD τ))) (s j : Fin 4) (u : Fin 16) (q : PosShare TreeShare)
    (f : Buf (Elt F) ((rslot s).view.loc (c : Thread nD τ))) : sProp 𝕄 :=
  Transfers.Flight countersEmb (c : Thread nD τ) (SemLoc.dma (csm s j).sem) () 65536 iprop(outPt c j u Y ∗ slotP c s q f)

/-- The four copies of step `u` out of slot `s`, under way, and what the kernel keeps of the slot. -/
abbrev inflQ (Y : Buf (Elt F) (resM.view.loc (c : Thread nD τ))) (s : Fin 4) (u : Fin 16)
    (f : Buf (Elt F) ((rslot s).view.loc (c : Thread nD τ))) : sProp 𝕄 :=
  iprop(fltP c Y s 0 u fullShare.right f ∗ fltP c Y s 1 u fullShare.left.right f ∗ fltP c Y s 2 u fullShare.left.left.right f
    ∗ fltP c Y s 3 u fullShare.left.left.left.right f ∗ slotP c s fullShare.left.left.left.left f)
/-- The same at whatever the slot holds. -/
abbrev inflP (Y : Buf (Elt F) (resM.view.loc (c : Thread nD τ))) (s : Fin 4) (u : Fin 16) : sProp 𝕄 := iprop(∃ f, inflQ c Y s u f)
/-- Slot `s` idle: its four cells at rest, and all of it at whatever it holds. -/
abbrev freeP (s : Fin 4) : sProp 𝕄 :=
  iprop(cellP (F := F) c s 0 ∗ cellP (F := F) c s 1 ∗ cellP (F := F) c s 2 ∗ cellP (F := F) c s 3 ∗ ∃ f, slotP (F := F) c s fullShare f)
/-- The four pieces of the result that step `u` writes, whose elements are those of `Y`. -/
abbrev rowsP (Y : Buf (Elt F) (resM.view.loc (c : Thread nD τ))) (u : Fin 16) : sProp 𝕄 :=
  iprop(outPt c 0 u Y ∗ outPt c 1 u Y ∗ outPt c 2 u Y ∗ outPt c 3 u Y)
/-- The waits the thread has made. -/
abbrev owesP : sProp 𝕄 := iprop(∃ W, owes (U := Pipeline.UC sig nD τ) (Lvl := ℕ) (Name := ℕ) (Val := Elt F) (c : Thread nD τ) 0 (W : Waits sig Unit))

/-- The kernel's body at step `i` on three staging buffers. -/
abbrev bodyG (i : grid0.Coords) (arg1 : Memref sig .tc .vmem S512x64 .f32) (harg1 : arg1.IsWhole) (arg2 : Memref sig .tc .vmem S64x1024 .f32) (harg2 : arg2.IsWhole)
    (arg3 : Memref sig .tc .vmem S1x1024 .f32) (harg3 : arg3.IsWhole) : Prog (TpuEff nD τ sig (Elt F) Λ₀ .tc) PUnit :=
  cc0__pos_block_kernel i arg1 harg1 arg2 harg2 arg3 harg3 resM (Memref.isWhole_whole _) bufM (Memref.isWhole_whole _) cc0_scratch1

/-! ## The shares of a slot -/

/-- A slot's five shares make it whole. -/
theorem slot_join (s : Fin 4) (f : Buf (Elt F) ((rslot s).view.loc (c : Thread nD τ))) :
    iprop(slotP c s fullShare.right f ∗ slotP c s fullShare.left.right f ∗ slotP c s fullShare.left.left.right f
      ∗ slotP c s fullShare.left.left.left.right f ∗ slotP c s fullShare.left.left.left.left f) ⊢ (slotP c s fullShare f : sProp 𝕄) := by
  have join : ∀ q : PosShare TreeShare, iprop(slotP c s q.right f ∗ slotP c s q.left f) ⊢ (slotP c s q f : sProp 𝕄) := fun q =>
    sep_comm.1.trans (pointsTo_share (PosShare.mem_left_op_right q)).2
  iintro ⟨H1, H2, H3, H4, H5⟩
  ihave H5 := (join fullShare.left.left.left) $$ [H4 H5]
  · isplitl [H4] <;> iassumption
  ihave H5 := (join fullShare.left.left) $$ [H3 H5]
  · isplitl [H3] <;> iassumption
  ihave H5 := (join fullShare.left) $$ [H2 H5]
  · isplitl [H2] <;> iassumption
  iapply (join fullShare)
  isplitl [H1] <;> iassumption

/-! ## What a copy carries -/

/-- Equal assertions entail one another. -/
theorem of_eq {P Q : sProp 𝕄} (e : P = Q) : P ⊢ Q := e ▸ .rfl

/-- A `1 × 512 × 1024` block as the `512 × 1024` matrix a copy carries. -/
abbrev flat (x : S1x512x1024.Idx → Elt F .f32) : S512x1024.Idx → Elt F .f32 :=
  fun y => x (Shape.reshapeEquiv squeezes_S1x512x1024_S512x1024.numel_eq y)

/-- The slot a step has stored its block into reads as that block. -/
theorem slot_read (i : grid0.Coords) (h) (f : Buf (Elt F) (bufM.view.loc (c : Thread nD τ))) (x : S1x512x1024.Idx → Elt F .f32) :
    (rslot (Ring.sl 4 (st i))).view.read (Elt F)
      (View.write (Elt F) (bufM.access (Rect.unit (k0_off10 i) S1x512x1024.size h)) f x Finset.univ) = flat x := by
  funext y
  exact congrFun (Memref.read_slice_write bufM h (off10_eq i) (slotOff_inb _) f x) (Shape.reshapeEquiv squeezes_S1x512x1024_S512x1024.numel_eq y)

/-- A piece into which what `Y` has there was copied holds its part of `Y`. -/
theorem landed (j : Fin 4) (u : Fin 16) (Y0 Y : Buf (Elt F) (resM.view.loc (c : Thread nD τ))) (p : S512x1024.Idx → Elt F .f32)
    (h : (outP j u).view.read (Elt F) Y = p) :
    (outPt c j u ((outP j u).view.writes (Elt F) Y0 [⟨Rect.whole S512x1024, p⟩]) : sProp 𝕄) = outPt c j u Y := by
  refine pointsTo_congr fun k hk => ?_
  obtain ⟨y, -, rfl⟩ := Finset.mem_map.mp hk
  exact View.eq_of_read_eq ((congrFun (View.read_writes_whole _ _ _) y).trans (congrFun h y).symm)

variable (i : grid0.Coords) (arg1 : Memref sig .tc .vmem S512x64 .f32) (harg1 : arg1.IsWhole) (arg2 : Memref sig .tc .vmem S64x1024 .f32) (harg2 : arg2.IsWhole)
  (arg3 : Memref sig .tc .vmem S1x1024 .f32) (harg3 : arg3.IsWhole)

/-- The block a step computes from its three staging buffers. -/
abbrev blockOf (g1 : Buf (Elt F) (arg1.view.loc (c : Thread nD τ))) (g2 : Buf (Elt F) (arg2.view.loc (c : Thread nD τ))) (g3 : Buf (Elt F) (arg3.view.loc (c : Thread nD τ))) :
    S1x512x1024.Idx → Elt F .f32 :=
  k0_pay1 (View.readAt (Elt F) arg1.view (Rect.unit ![0, 0] S512x64.size inb_S512x64_S512x64_0_0).toLoadRect g1)
    (View.readAt (Elt F) arg2.view (Rect.unit ![0, 0] S64x1024.size inb_S64x1024_S64x1024_0_0).toLoadRect g2)
    (View.readAt (Elt F) arg3.view (Rect.unit ![0, 0] S1x1024.size inb_S1x1024_S1x1024_0_0).toLoadRect g3)

/-! ## The three kinds of step -/

/-- A step before the fourth: its slot is idle before and has the step's four copies under way after. -/
theorem run0 (g1 g2 g3) (Y0 Y : Buf (Elt F) (resM.view.loc (c : Thread nD τ)))
    (h1 : ¬ k0_cond1 i = 1#1) (h2 : ¬ k0_cond2 i = 1#1)
    (hY : ∀ j, (outP j (Ring.bk 16 (st i))).view.read (Elt F) Y = flat (blockOf c arg1 arg2 arg3 g1 g2 g3)) :
    iprop(stgPt c arg1 g1 ∗ stgPt c arg2 g2 ∗ stgPt c arg3 g3 ∗ freeP c (Ring.sl 4 (st i)) ∗ rowsP c Y0 (Ring.bk 16 (st i)) ∗ owesP c)
      ⊢ (wp frame (wpE (defs₀ (F := F)) Variants.none (c : Thread nD τ) none) Set.univ (bodyG i arg1 harg1 arg2 harg2 arg3 harg3)
        (fun _ => iprop(stgPt c arg1 g1 ∗ stgPt c arg2 g2 ∗ stgPt c arg3 g3 ∗ inflP c Y (Ring.sl 4 (st i)) (Ring.bk 16 (st i)) ∗ owesP c)) : sProp 𝕄) := by
  iintro ⟨Hx1, Hx2, Hx3, ⟨Hc0, Hc1, Hc2, Hc3, %f0, HS⟩, ⟨HO0, HO1, HO2, HO3⟩, %W, HW⟩
  set_option sl_exec.lendShare "HS" in
  sl_exec
  have hp : run0.sl.dma5 c i arg1 arg2 arg3 g1 g2 g3 f0 = flat (blockOf c arg1 arg2 arg3 g1 g2 g3) := slot_read c i _ _ _
  sl_step
  isplitl [Hx1]; · iexact Hx1
  isplitl [Hx2]; · iexact Hx2
  isplitl [Hx3]; · iexact Hx3
  isplitl [Hc0 Hc1 Hc2 Hc3 HS]
  · iexists _
    isplitl [Hc0]
    · iapply (Transfers.Flight_mono countersEmb (c : Thread nD τ) (sep_mono_left (of_eq (landed c 0 _ Y0 Y _ ((hY 0).trans hp.symm))))) $$ Hc0
    isplitl [Hc1]
    · iapply (Transfers.Flight_mono countersEmb (c : Thread nD τ) (sep_mono_left (of_eq (landed c 1 _ Y0 Y _ ((hY 1).trans hp.symm))))) $$ Hc1
    isplitl [Hc2]
    · iapply (Transfers.Flight_mono countersEmb (c : Thread nD τ) (sep_mono_left (of_eq (landed c 2 _ Y0 Y _ ((hY 2).trans hp.symm))))) $$ Hc2
    isplitl [Hc3]
    · iapply (Transfers.Flight_mono countersEmb (c : Thread nD τ) (sep_mono_left (of_eq (landed c 3 _ Y0 Y _ ((hY 3).trans hp.symm))))) $$ Hc3
    iexact HS
  iexists _
  iexact HW

/-- A step between: the copies of four steps before are waited for, their pieces done, and the slot has the step's own four copies under way after. -/
theorem run1 (g1 g2 g3) (Y0 Y : Buf (Elt F) (resM.view.loc (c : Thread nD τ)))
    (h1 : k0_cond1 i = 1#1) (h2 : ¬ k0_cond2 i = 1#1)
    (hY : ∀ j, (outP j (Ring.bk 16 (st i))).view.read (Elt F) Y = flat (blockOf c arg1 arg2 arg3 g1 g2 g3)) :
    iprop(stgPt c arg1 g1 ∗ stgPt c arg2 g2 ∗ stgPt c arg3 g3 ∗ inflP c Y (Ring.sl 4 (st i)) (Ring.bk 16 (st i - 4)) ∗ rowsP c Y0 (Ring.bk 16 (st i)) ∗ owesP c)
      ⊢ (wp frame (wpE (defs₀ (F := F)) Variants.none (c : Thread nD τ) none) Set.univ (bodyG i arg1 harg1 arg2 harg2 arg3 harg3)
        (fun _ => iprop(stgPt c arg1 g1 ∗ stgPt c arg2 g2 ∗ stgPt c arg3 g3 ∗ inflP c Y (Ring.sl 4 (st i)) (Ring.bk 16 (st i)) ∗ rowsP c Y (Ring.bk 16 (st i - 4)) ∗ owesP c)) : sProp 𝕄) := by
  iintro ⟨Hx1, Hx2, Hx3, ⟨%f0, Hc0, Hc1, Hc2, Hc3, HS'⟩, ⟨HO0, HO1, HO2, HO3⟩, %W, HW⟩
  sl_exec
  ihave HS := (slot_join c (Ring.sl 4 (st i)) f0) $$ [Hc0_src Hc1_src Hc2_src Hc3_src HS']
  · isplitl [Hc0_src]; · iexact Hc0_src
    isplitl [Hc1_src]; · iexact Hc1_src
    isplitl [Hc2_src]; · iexact Hc2_src
    isplitl [Hc3_src]; · iexact Hc3_src
    iexact HS'
  set_option sl_exec.lendShare "HS" in
  sl_exec
  have hp : run1.sl.dma1 c i arg1 arg2 arg3 g1 g2 g3 f0 = flat (blockOf c arg1 arg2 arg3 g1 g2 g3) := slot_read c i _ _ _
  sl_step
  isplitl [Hx1]; · iexact Hx1
  isplitl [Hx2]; · iexact Hx2
  isplitl [Hx3]; · iexact Hx3
  isplitl [Hc0 Hc1 Hc2 Hc3 HS]
  · iexists _
    isplitl [Hc0]
    · iapply (Transfers.Flight_mono countersEmb (c : Thread nD τ) (sep_mono_left (of_eq (landed c 0 _ Y0 Y _ ((hY 0).trans hp.symm))))) $$ Hc0
    isplitl [Hc1]
    · iapply (Transfers.Flight_mono countersEmb (c : Thread nD τ) (sep_mono_left (of_eq (landed c 1 _ Y0 Y _ ((hY 1).trans hp.symm))))) $$ Hc1
    isplitl [Hc2]
    · iapply (Transfers.Flight_mono countersEmb (c : Thread nD τ) (sep_mono_left (of_eq (landed c 2 _ Y0 Y _ ((hY 2).trans hp.symm))))) $$ Hc2
    isplitl [Hc3]
    · iapply (Transfers.Flight_mono countersEmb (c : Thread nD τ) (sep_mono_left (of_eq (landed c 3 _ Y0 Y _ ((hY 3).trans hp.symm))))) $$ Hc3
    iexact HS
  isplitl [Hc0_dst Hc1_dst Hc2_dst Hc3_dst]
  · isplitl [Hc0_dst]; · iexact Hc0_dst
    isplitl [Hc1_dst]; · iexact Hc1_dst
    isplitl [Hc2_dst]; · iexact Hc2_dst
    iexact Hc3_dst
  iexists _
  iexact HW

/-- The last step: every slot has copies under way before, and all are idle after, every piece done. -/
theorem run2 (g1 g2 g3) (Y0 Y : Buf (Elt F) (resM.view.loc (c : Thread nD τ)))
    (h1 : k0_cond1 i = 1#1) (h2 : k0_cond2 i = 1#1) (h3 : k0_cond3 i = 1#1) (h4 : k0_cond4 i = 1#1) (h5 : k0_cond5 i = 1#1) (h6 : k0_cond6 i = 1#1)
    (hY : ∀ j, (outP j (Ring.bk 16 (st i))).view.read (Elt F) Y = flat (blockOf c arg1 arg2 arg3 g1 g2 g3)) :
    iprop(stgPt c arg1 g1 ∗ stgPt c arg2 g2 ∗ stgPt c arg3 g3 ∗ inflP c Y (Ring.sl 4 (st i)) (Ring.bk 16 (st i - 4)) ∗ inflP c Y (Ring.sl 4 (st i + 1)) (Ring.bk 16 (st i + 1 - 4)) ∗ inflP c Y (Ring.sl 4 (st i + 2)) (Ring.bk 16 (st i + 2 - 4)) ∗ inflP c Y (Ring.sl 4 (st i + 3)) (Ring.bk 16 (st i + 3 - 4)) ∗ rowsP c Y0 (Ring.bk 16 (st i)) ∗ owesP c)
      ⊢ (wp frame (wpE (defs₀ (F := F)) Variants.none (c : Thread nD τ) none) Set.univ (bodyG i arg1 harg1 arg2 harg2 arg3 harg3)
        (fun _ => iprop(stgPt c arg1 g1 ∗ stgPt c arg2 g2 ∗ stgPt c arg3 g3 ∗ (freeP c (Ring.sl 4 (st i)) ∗ rowsP c Y (Ring.bk 16 (st i - 4))) ∗ (freeP c (Ring.sl 4 (st i + 1)) ∗ rowsP c Y (Ring.bk 16 (st i + 1 - 4))) ∗ (freeP c (Ring.sl 4 (st i + 2)) ∗ rowsP c Y (Ring.bk 16 (st i + 2 - 4))) ∗ (freeP c (Ring.sl 4 (st i + 3)) ∗ rowsP c Y (Ring.bk 16 (st i + 3 - 4))) ∗ rowsP c Y (Ring.bk 16 (st i)) ∗ owesP c)) : sProp 𝕄) := by
  iintro ⟨Hx1, Hx2, Hx3, ⟨%f0, Hc0, Hc1, Hc2, Hc3, HS'⟩, ⟨%fA, HA0, HA1, HA2, HA3, HAS⟩, ⟨%fB, HB0, HB1, HB2, HB3, HBS⟩, ⟨%fC, HC0, HC1, HC2, HC3, HCS⟩,
    ⟨HO0, HO1, HO2, HO3⟩, %W, HW⟩
  sl_exec
  ihave HS := (slot_join c (Ring.sl 4 (st i)) f0) $$ [Hc0_src Hc1_src Hc2_src Hc3_src HS']
  · isplitl [Hc0_src]; · iexact Hc0_src
    isplitl [Hc1_src]; · iexact Hc1_src
    isplitl [Hc2_src]; · iexact Hc2_src
    isplitl [Hc3_src]; · iexact Hc3_src
    iexact HS'
  set_option sl_exec.lendShare "HS" in
  sl_exec
  have hp : run2.sl.dma1 c i arg1 arg2 arg3 g1 g2 g3 f0 = flat (blockOf c arg1 arg2 arg3 g1 g2 g3) := slot_read c i _ _ _
  sl_step
  isplitl [Hx1]; · iexact Hx1
  isplitl [Hx2]; · iexact Hx2
  isplitl [Hx3]; · iexact Hx3
  isplitl [Hc0 Hc1 Hc2 Hc3 HS_lend HS_lend_2 HS_lend_3 HS_lend_4 HS Hc0_dst Hc1_dst Hc2_dst Hc3_dst]
  · isplitr [Hc0_dst Hc1_dst Hc2_dst Hc3_dst]
    · isplitl [Hc0]; · iexact Hc0
      isplitl [Hc1]; · iexact Hc1
      isplitl [Hc2]; · iexact Hc2
      isplitl [Hc3]; · iexact Hc3
      iexists _
      iapply (slot_join c _ _)
      isplitl [HS_lend]; · iexact HS_lend
      isplitl [HS_lend_2]; · iexact HS_lend_2
      isplitl [HS_lend_3]; · iexact HS_lend_3
      isplitl [HS_lend_4]; · iexact HS_lend_4
      iexact HS
    isplitl [Hc0_dst]; · iexact Hc0_dst
    isplitl [Hc1_dst]; · iexact Hc1_dst
    isplitl [Hc2_dst]; · iexact Hc2_dst
    iexact Hc3_dst
  isplitl [HA0 HA1 HA2 HA3 HA0_src HA1_src HA2_src HA3_src HAS HA0_dst HA1_dst HA2_dst HA3_dst]
  · isplitr [HA0_dst HA1_dst HA2_dst HA3_dst]
    · isplitl [HA0]; · iexact HA0
      isplitl [HA1]; · iexact HA1
      isplitl [HA2]; · iexact HA2
      isplitl [HA3]; · iexact HA3
      iexists _
      iapply (slot_join c _ _)
      isplitl [HA0_src]; · iexact HA0_src
      isplitl [HA1_src]; · iexact HA1_src
      isplitl [HA2_src]; · iexact HA2_src
      isplitl [HA3_src]; · iexact HA3_src
      iexact HAS
    isplitl [HA0_dst]; · iexact HA0_dst
    isplitl [HA1_dst]; · iexact HA1_dst
    isplitl [HA2_dst]; · iexact HA2_dst
    iexact HA3_dst
  isplitl [HB0 HB1 HB2 HB3 HB0_src HB1_src HB2_src HB3_src HBS HB0_dst HB1_dst HB2_dst HB3_dst]
  · isplitr [HB0_dst HB1_dst HB2_dst HB3_dst]
    · isplitl [HB0]; · iexact HB0
      isplitl [HB1]; · iexact HB1
      isplitl [HB2]; · iexact HB2
      isplitl [HB3]; · iexact HB3
      iexists _
      iapply (slot_join c _ _)
      isplitl [HB0_src]; · iexact HB0_src
      isplitl [HB1_src]; · iexact HB1_src
      isplitl [HB2_src]; · iexact HB2_src
      isplitl [HB3_src]; · iexact HB3_src
      iexact HBS
    isplitl [HB0_dst]; · iexact HB0_dst
    isplitl [HB1_dst]; · iexact HB1_dst
    isplitl [HB2_dst]; · iexact HB2_dst
    iexact HB3_dst
  isplitl [HC0 HC1 HC2 HC3 HC0_src HC1_src HC2_src HC3_src HCS HC0_dst HC1_dst HC2_dst HC3_dst]
  · isplitr [HC0_dst HC1_dst HC2_dst HC3_dst]
    · isplitl [HC0]; · iexact HC0
      isplitl [HC1]; · iexact HC1
      isplitl [HC2]; · iexact HC2
      isplitl [HC3]; · iexact HC3
      iexists _
      iapply (slot_join c _ _)
      isplitl [HC0_src]; · iexact HC0_src
      isplitl [HC1_src]; · iexact HC1_src
      isplitl [HC2_src]; · iexact HC2_src
      isplitl [HC3_src]; · iexact HC3_src
      iexact HCS
    isplitl [HC0_dst]; · iexact HC0_dst
    isplitl [HC1_dst]; · iexact HC1_dst
    isplitl [HC2_dst]; · iexact HC2_dst
    iexact HC3_dst
  isplitl [HO0 HO1 HO2 HO3]
  · isplitl [HO0]; · iapply (of_eq (landed c 0 _ Y0 Y _ ((hY 0).trans hp.symm))) $$ HO0
    isplitl [HO1]; · iapply (of_eq (landed c 1 _ Y0 Y _ ((hY 1).trans hp.symm))) $$ HO1
    isplitl [HO2]; · iapply (of_eq (landed c 2 _ Y0 Y _ ((hY 2).trans hp.symm))) $$ HO2
    iapply (of_eq (landed c 3 _ Y0 Y _ ((hY 3).trans hp.symm))) $$ HO3
  iexists _
  iexact HW

end Pieces

end Cert.Proof.Pos

end
-- ==== Proof.RingState.lean ====
/-
  What the kernel holds between two grid steps, over families of assertions left abstract: `free s` (slot `s` idle),
  `infl s u` (step `u`'s copies under way out of slot `s`), `ahead u` (the pieces of the result step `u` is still to
  write) and `behind u` (the same pieces once written). There are four slots and sixteen steps, and a step's copies
  are waited for four steps later, or at the last step.
-/
module

public import Idealize.ShloMosaic.Lib.Ring.WriteBehind

@[expose] public section

noncomputable section

namespace Cert.Proof.Pos

open Idealize.ShloMosaic Idealize.ShloMosaic.Ring
open Idealize.SL
open Idealize.SL.BI (sProp bigSep)
open scoped Idealize.SL.BI
open Idealize.SL.BI.BIBase Idealize.SL.BI.Laws Idealize.SL.Sem Idealize.SL.ProofMode
open Idealize.SL.RA

section Ring

variable {M : Type _} [URA M]
variable (free : Fin 4 → sProp M) (infl : Fin 4 → Fin 16 → sProp M) (ahead behind : Fin 16 → sProp M)

/-- The slot steps `k - 4` and `k` share, before step `k`: step `k - 4`'s copies are under way out of it, if there is
    such a step. -/
def role (k : ℕ) : sProp M := if 4 ≤ k then infl (sl 4 k) (bk 16 (k - 4)) else free (sl 4 k)

theorem role_boot (k : ℕ) (h : k < 4) : role free infl k = free (sl 4 k) := if_neg (by omega)
theorem role_late (k : ℕ) (h : 4 ≤ k) : role free infl k = infl (sl 4 k) (bk 16 (k - 4)) := if_pos h
/-- A step leaves its own copies under way out of its slot. -/
theorem role_next (k : ℕ) : role free infl (k + 4) = infl (sl 4 k) (bk 16 k) := by
  rw [role_late free infl (k + 4) (by omega), sl_add, Nat.add_sub_cancel]

/-- Everything step `p` does not touch, unless it is the last. -/
def restAt (p : ℕ) : sProp M :=
  iprop(bigSep (aheadSet (p + 1)) ahead ∗ bigSep (behindSet 4 p) behind ∗ role free infl (p + 1) ∗ role free infl (p + 2) ∗ role free infl (p + 3))

/-- What is held before step `p`, and, at 16, after the last step. -/
def ringAt (p : ℕ) : sProp M :=
  if p < 16 then
    iprop(bigSep (aheadSet p) ahead ∗ bigSep (behindSet 4 p) behind
      ∗ role free infl p ∗ role free infl (p + 1) ∗ role free infl (p + 2) ∗ role free infl (p + 3))
  else iprop(bigSep Finset.univ behind ∗ free 0 ∗ free 1 ∗ free 2 ∗ free 3)

/-- Before the first step every piece is ahead and every slot idle. -/
theorem ring_start : iprop(bigSep Finset.univ ahead ∗ free 0 ∗ free 1 ∗ free 2 ∗ free 3) ⊢ ringAt free infl ahead behind 0 := by
  unfold ringAt
  rw [if_pos (by omega), aheadSet_zero, behindSet_boot 4 0 (by omega), BI.bigSep_empty, role_boot free infl 0 (by omega),
    role_boot free infl (0 + 1) (by omega), role_boot free infl (0 + 2) (by omega), role_boot free infl (0 + 3) (by omega)]
  iintro ⟨HA, H0, H1, H2, H3⟩
  isplitl [HA]; · iexact HA
  isplitl []; · iempintro
  isplitl [H0]; · iexact H0
  isplitl [H1]; · iexact H1
  isplitl [H2]; · iexact H2
  iexact H3

/-- After the last step every piece is written and every slot idle. -/
theorem ring_end : ringAt free infl ahead behind 16 ⊢ iprop(bigSep Finset.univ behind ∗ free 0 ∗ free 1 ∗ free 2 ∗ free 3) := by
  unfold ringAt
  rw [if_neg (by omega)]

/-- A step takes its own pieces and its slot; -/
theorem ring_open (t : ℕ) (h : t < 16) :
    ringAt free infl ahead behind t ⊢ iprop(ahead (bk 16 t) ∗ role free infl t ∗ restAt free infl ahead behind t) := by
  unfold ringAt restAt
  rw [if_pos h, aheadSet_open t h, bigSep_put (bk_not_mem_aheadSet_succ t h)]
  iintro ⟨⟨Ha, HA⟩, HB, H0, H1, H2, H3⟩
  isplitl [Ha]; · iexact Ha
  isplitl [H0]; · iexact H0
  isplitl [HA]; · iexact HA
  isplitl [HB]; · iexact HB
  isplitl [H1]; · iexact H1
  isplitl [H2]; · iexact H2
  iexact H3

/-- and before the fourth step it hands back its copies under way. -/
theorem ring_close_boot (t : ℕ) (h : t < 4) :
    iprop(infl (sl 4 t) (bk 16 t) ∗ restAt free infl ahead behind t) ⊢ ringAt free infl ahead behind (t + 1) := by
  unfold ringAt restAt
  rw [if_pos (by omega), behindSet_boot 4 t (by omega), behindSet_boot 4 (t + 1) (by omega),
    show t + 1 + 3 = t + 4 from rfl, role_next, show t + 1 + 1 = t + 2 from rfl, show t + 1 + 2 = t + 3 from rfl]
  iintro ⟨Hn, HA, HB, H1, H2, H3⟩
  isplitl [HA]; · iexact HA
  isplitl [HB]; · iexact HB
  isplitl [H1]; · iexact H1
  isplitl [H2]; · iexact H2
  isplitl [H3]; · iexact H3
  iexact Hn

/-- From then on, until the last, it also hands back the pieces of four steps before, written. -/
theorem ring_close (t : ℕ) (h4 : 4 ≤ t) (h : t < 15) :
    iprop(infl (sl 4 t) (bk 16 t) ∗ behind (bk 16 (t - 4)) ∗ restAt free infl ahead behind t) ⊢ ringAt free infl ahead behind (t + 1) := by
  unfold ringAt restAt
  rw [if_pos (by omega), behindSet_close 4 t h4 (by omega), bigSep_put (bk_not_mem_behindSet 4 t h4 (by omega)),
    show t + 1 + 3 = t + 4 from rfl, role_next, show t + 1 + 1 = t + 2 from rfl, show t + 1 + 2 = t + 3 from rfl]
  iintro ⟨Hn, Hb, HA, HB, H1, H2, H3⟩
  isplitl [HA]; · iexact HA
  isplitl [Hb HB]
  · isplitl [Hb]; · iexact Hb
    iexact HB
  isplitl [H1]; · iexact H1
  isplitl [H2]; · iexact H2
  isplitl [H3]; · iexact H3
  iexact Hn

/-- The last step takes every slot, each with copies under way; -/
theorem ring_open_last :
    ringAt free infl ahead behind 15 ⊢ iprop(ahead (bk 16 15) ∗ infl (sl 4 15) (bk 16 (15 - 4)) ∗ infl (sl 4 (15 + 1)) (bk 16 (15 + 1 - 4))
      ∗ infl (sl 4 (15 + 2)) (bk 16 (15 + 2 - 4)) ∗ infl (sl 4 (15 + 3)) (bk 16 (15 + 3 - 4)) ∗ bigSep (behindSet 4 15) behind) := by
  unfold ringAt
  rw [if_pos (by omega), aheadSet_open 15 (by omega), bigSep_put (bk_not_mem_aheadSet_succ 15 (by omega)), aheadSet_end (15 + 1) (by omega),
    BI.bigSep_empty, role_late free infl 15 (by omega), role_late free infl (15 + 1) (by omega), role_late free infl (15 + 2) (by omega),
    role_late free infl (15 + 3) (by omega)]
  iintro ⟨⟨Ha, -⟩, HB, H0, H1, H2, H3⟩
  isplitl [Ha]; · iexact Ha
  isplitl [H0]; · iexact H0
  isplitl [H1]; · iexact H1
  isplitl [H2]; · iexact H2
  isplitl [H3]; · iexact H3
  iexact HB

theorem steps_eq : (Finset.univ : Finset (Fin 16)) = insert (bk 16 (15 - 4)) (insert (bk 16 (15 + 1 - 4)) (insert (bk 16 (15 + 2 - 4))
    (insert (bk 16 (15 + 3 - 4)) (insert (bk 16 15) (behindSet 4 15))))) := by decide

/-- and hands back every slot idle and all their pieces written. -/
theorem ring_close_last :
    iprop((free (sl 4 15) ∗ behind (bk 16 (15 - 4))) ∗ (free (sl 4 (15 + 1)) ∗ behind (bk 16 (15 + 1 - 4)))
      ∗ (free (sl 4 (15 + 2)) ∗ behind (bk 16 (15 + 2 - 4))) ∗ (free (sl 4 (15 + 3)) ∗ behind (bk 16 (15 + 3 - 4)))
      ∗ behind (bk 16 15) ∗ bigSep (behindSet 4 15) behind) ⊢ ringAt free infl ahead behind (15 + 1) := by
  unfold ringAt
  rw [if_neg (by omega), steps_eq, bigSep_put (by decide), bigSep_put (by decide), bigSep_put (by decide), bigSep_put (by decide), bigSep_put (by decide),
    show sl 4 15 = 3 by decide, show sl 4 (15 + 1) = 0 by decide, show sl 4 (15 + 2) = 1 by decide, show sl 4 (15 + 3) = 2 by decide]
  iintro ⟨⟨F3, B0⟩, ⟨F0, B1⟩, ⟨F1, B2⟩, ⟨F2, B3⟩, B4, HB⟩
  isplitl [B0 B1 B2 B3 B4 HB]
  · isplitl [B0]; · iexact B0
    isplitl [B1]; · iexact B1
    isplitl [B2]; · iexact B2
    isplitl [B3]; · iexact B3
    isplitl [B4]; · iexact B4
    iexact HB
  isplitl [F0]; · iexact F0
  isplitl [F1]; · iexact F1
  isplitl [F2]; · iexact F2
  iexact F3

end Ring

end Cert.Proof.Pos

end
-- ==== Proof.Pieces.lean ====
/-
  The result array is its sixteen steps' four pieces each, the scratch buffer is its four slots, and the kernel's own
  semaphores are the slots' cells.
-/
module

public import proofs.«01_k».proof.Proof.Body
public import proofs.«01_k».proof.Proof.RingState

@[expose] public section

noncomputable section

namespace Cert.Proof.Pos

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions this proof speaks in. -/
local notation "𝕄" => MT nD τ sig Unit (Elt F) ℕ (Pipeline.UC sig nD τ) ℕ

/-- A family over four indices, conjoined one by one. -/
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-! ## The result -/

/-- The elements of piece `(p.2, p.1)`. -/
def outSet (p : Fin 16 × Fin 4) : Finset S4x8192x1024.Idx := (Rect.unit (s := S4x8192x1024) (outOff p.2 p.1) S1x512x1024.size (outOff_inb p.2 p.1)).set

theorem outP_set (u : Fin 16) (j : Fin 4) : (outP j u).view.set = outSet (u, j) :=
  (View.set_reshape _ _).trans (View.set_slice_whole main_v1 _)

/-- An index lies in the piece of its batch row and of its table row's step. -/
theorem mem_outSet (p : Fin 16 × Fin 4) (x : S4x8192x1024.Idx) :
    x ∈ outSet p ↔ (x 0).val = p.2.val ∧ (x 1).val / 512 = p.1.val := by
  have h1 := p.1.isLt; have h2 := p.2.isLt
  have hx2 : (x 2).val < 1024 := (x 2).isLt
  unfold outSet
  rw [Rect.mem_set_unit]
  constructor
  · intro h
    have a0 : p.2.val ≤ (x 0).val ∧ (x 0).val < p.2.val + 1 := h 0
    have a1 : 512 * p.1.val ≤ (x 1).val ∧ (x 1).val < 512 * p.1.val + 512 := h 1
    omega
  · rintro ⟨a0, a1⟩ a
    fin_cases a
    · show p.2.val ≤ (x 0).val ∧ (x 0).val < p.2.val + 1; omega
    · show 512 * p.1.val ≤ (x 1).val ∧ (x 1).val < 512 * p.1.val + 512; omega
    · show 0 ≤ (x 2).val ∧ (x 2).val < 0 + 1024; omega

theorem outSet_disjoint (p q : Fin 16 × Fin 4) (h : p ≠ q) : Disjoint (outSet p) (outSet q) := by
  rw [Finset.disjoint_left]
  intro x hp hq
  rw [mem_outSet] at hp hq
  exact h (Prod.ext (Fin.ext (hp.2.symm.trans hq.2)) (Fin.ext (hp.1.symm.trans hq.1)))

theorem outSet_cover : Finset.univ.biUnion outSet = Finset.univ := by
  ext x
  have h0 : (x 0).val < 4 := (x 0).isLt
  have h1 : (x 1).val < 8192 := (x 1).isLt
  simp only [Finset.mem_biUnion, Finset.mem_univ, true_and, iff_true]
  exact ⟨(⟨(x 1).val / 512, by omega⟩, ⟨(x 0).val, h0⟩), (mem_outSet _ _).mpr ⟨rfl, rfl⟩⟩

theorem outPt_eq (c : Dev nD) (u : Fin 16) (j : Fin 4) (f : Buf (Elt F) (resM.view.loc (c : Thread nD τ))) :
    (outPt c j u f : sProp 𝕄) = (((c : Thread nD τ).loc main_v1) ↦[outSet (u, j)]{fullShare} f) :=
  congrArg (fun S => (((c : Thread nD τ).loc main_v1) ↦[S]{fullShare} f : sProp 𝕄)) (outP_set u j)

/-- The result held whole is every step's pieces held. -/
theorem result_eq (c : Dev nD) (f : Buf (Elt F) (resM.view.loc (c : Thread nD τ))) :
    (((c : Thread nD τ).loc main_v1) ↦{fullShare} f : sProp 𝕄) = bigSep Finset.univ (rowsP c f) := by
  rw [Ring.pointsTo_blocks (Ix := Unit) (Name := ℕ) (U := Pipeline.UC sig nD τ) (Lvl := ℕ) (q := fullShare) (ℓ := (c : Thread nD τ).loc main_v1)
    outSet outSet_disjoint outSet_cover f, bigSep_univ_prod]
  refine BI.bigSep_congr fun u _ => ?_
  rw [bigSep_four, ← outPt_eq c u 0 f, ← outPt_eq c u 1 f, ← outPt_eq c u 2 f, ← outPt_eq c u 3 f]

/-! ## The scratch buffer -/

/-- The elements of slot `s`. -/
def slotSet (s : Fin 4) : Finset S4x512x1024.Idx := (Rect.unit (s := S4x512x1024) (slotOff s) S1x512x1024.size (slotOff_inb s)).set

theorem rslot_set (s : Fin 4) : (rslot s).view.set = slotSet s :=
  (View.set_reshape _ _).trans (View.set_slice_whole cc0_scratch0 _)

/-- An index lies in the slot its first coordinate names. -/
theorem mem_slotSet (s : Fin 4) (x : S4x512x1024.Idx) : x ∈ slotSet s ↔ (x 0).val = s.val := by
  have h2 := s.isLt
  have hx1 : (x 1).val < 512 := (x 1).isLt
  have hx2 : (x 2).val < 1024 := (x 2).isLt
  unfold slotSet
  rw [Rect.mem_set_unit]
  constructor
  · intro h
    have a0 : s.val ≤ (x 0).val ∧ (x 0).val < s.val + 1 := h 0
    omega
  · intro a0 a
    fin_cases a
    · show s.val ≤ (x 0).val ∧ (x 0).val < s.val + 1; omega
    · show 0 ≤ (x 1).val ∧ (x 1).val < 0 + 512; omega
    · show 0 ≤ (x 2).val ∧ (x 2).val < 0 + 1024; omega

theorem slotSet_disjoint (s s' : Fin 4) (h : s ≠ s') : Disjoint (slotSet s) (slotSet s') := by
  rw [Finset.disjoint_left]
  intro x hp hq
  rw [mem_slotSet] at hp hq
  exact h (Fin.ext (hp.symm.trans hq))

theorem slotSet_cover : Finset.univ.biUnion slotSet = Finset.univ := by
  ext x
  have h0 : (x 0).val < 4 := (x 0).isLt
  simp only [Finset.mem_biUnion, Finset.mem_univ, true_and, iff_true]
  exact ⟨⟨(x 0).val, h0⟩, (mem_slotSet _ _).mpr rfl⟩

theorem slotP_eq (c : Dev nD) (s : Fin 4) (f : Buf (Elt F) (bufM.view.loc (c : Thread nD τ))) :
    (slotP c s fullShare f : sProp 𝕄) = (((c : Thread nD τ).loc cc0_scratch0) ↦[slotSet s]{fullShare} f) :=
  congrArg (fun S => (((c : Thread nD τ).loc cc0_scratch0) ↦[S]{fullShare} f : sProp 𝕄)) (rslot_set s)

/-- The scratch buffer whole at anything is its four slots, each at anything; -/
theorem buf_split (c : Dev nD) :
    iprop(∃ f : Buf (Elt F) ((c : Thread nD τ).loc cc0_scratch0), ((c : Thread nD τ).loc cc0_scratch0) ↦{fullShare} f)
      ⊢ (iprop((∃ f, slotP c 0 fullShare f) ∗ (∃ f, slotP c 1 fullShare f) ∗ (∃ f, slotP c 2 fullShare f) ∗ ∃ f, slotP c 3 fullShare f) : sProp 𝕄) := by
  iintro ⟨%f, H⟩
  ihave H2 := (of_eq ((Ring.pointsTo_blocks (Ix := Unit) (Name := ℕ) (U := Pipeline.UC sig nD τ) (Lvl := ℕ) (q := fullShare)
    (ℓ := (c : Thread nD τ).loc cc0_scratch0) slotSet slotSet_disjoint slotSet_cover f).trans (bigSep_four _))) $$ H
  icases H2 with ⟨H0, H1, H2, H3⟩
  isplitl [H0]
  · iexists f; iapply (of_eq (slotP_eq c 0 f).symm); iexact H0
  isplitl [H1]
  · iexists f; iapply (of_eq (slotP_eq c 1 f).symm); iexact H1
  isplitl [H2]
  · iexists f; iapply (of_eq (slotP_eq c 2 f).symm); iexact H2
  iexists f; iapply (of_eq (slotP_eq c 3 f).symm); iexact H3

/-- and back. -/
theorem buf_join (c : Dev nD) :
    iprop((∃ f, slotP c 0 fullShare f) ∗ (∃ f, slotP c 1 fullShare f) ∗ (∃ f, slotP c 2 fullShare f) ∗ ∃ f, slotP c 3 fullShare f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) slotSet slotSet_disjoint slotSet_cover f0)
  irw [bigSep_four]
  isplitl [H0]
  · iexists f0; iapply (of_eq (slotP_eq c 0 f0)); iexact H0
  isplitl [H1]
  · iexists f1; iapply (of_eq (slotP_eq c 1 f1)); iexact H1
  isplitl [H2]
  · iexists f2; iapply (of_eq (slotP_eq c 2 f2)); iexact H2
  iexists f3; iapply (of_eq (slotP_eq c 3 f3)); iexact H3

/-! ## The semaphores -/

/-- The kernel's own semaphores. -/
def osem (p : Fin 4 × Fin 4) : SemLoc sig := SemLoc.dma (csm p.1 p.2).sem
theorem ownSemFacts : Pipeline.OwnSemFacts spec0 osem := by decide +kernel

/-- They are the sixteen cells. -/
theorem ownSems0_eq (c : Dev nD) :
    (Pipeline.ownSems0 (Ix := Unit) (Name := ℕ) (U := Pipeline.UC sig nD τ) (Lvl := ℕ) (Val := Elt F) (τ := τ) osem c : sProp 𝕄)
      = bigSep Finset.univ fun s : Fin 4 => iprop(cellP c s 0 ∗ cellP c s 1 ∗ cellP c s 2 ∗ cellP c s 3) := by
  unfold Pipeline.ownSems0
  rw [bigSep_univ_prod]
  exact BI.bigSep_congr fun s _ => bigSep_four _

/-- The cells and the scratch buffer are the four slots, idle; -/
theorem idle_split (c : Dev nD) :
    iprop(Pipeline.ownSems0 (Ix := Unit) (Name := ℕ) (U := Pipeline.UC sig nD τ) (Lvl := ℕ) (Val := Elt F) (τ := τ) osem c
        ∗ ∃ f : Buf (Elt F) ((c : Thread nD τ).loc cc0_scratch0), ((c : Thread nD τ).loc cc0_scratch0) ↦{fullShare} f)
      ⊢ (iprop(freeP c 0 ∗ freeP c 1 ∗ freeP c 2 ∗ freeP c 3) : sProp 𝕄) := by
  rw [ownSems0_eq, bigSep_four]
  iintro ⟨⟨⟨A0, A1, A2, A3⟩, ⟨B0, B1, B2, B3⟩, ⟨C0, C1, C2, C3⟩, ⟨D0, D1, D2, D3⟩⟩, H⟩
  ihave H := (buf_split c) $$ H
  icases H with ⟨H0, H1, H2, H3⟩
  isplitl [A0 A1 A2 A3 H0]
  · isplitl [A0]; · iexact A0
    isplitl [A1]; · iexact A1
    isplitl [A2]; · iexact A2
    isplitl [A3]; · iexact A3
    iexact H0
  isplitl [B0 B1 B2 B3 H1]
  · isplitl [B0]; · iexact B0
    isplitl [B1]; · iexact B1
    isplitl [B2]; · iexact B2
    isplitl [B3]; · iexact B3
    iexact H1
  isplitl [C0 C1 C2 C3 H2]
  · isplitl [C0]; · iexact C0
    isplitl [C1]; · iexact C1
    isplitl [C2]; · iexact C2
    isplitl [C3]; · iexact C3
    iexact H2
  isplitl [D0]; · iexact D0
  isplitl [D1]; · iexact D1
  isplitl [D2]; · iexact D2
  isplitl [D3]; · iexact D3
  iexact H3

/-- and back. -/
theorem idle_join (c : Dev nD) :
    iprop(freeP c 0 ∗ freeP c 1 ∗ freeP c 2 ∗ freeP c 3)
      ⊢ (iprop(Pipeline.ownSems0 (Ix := Unit) (Name := ℕ) (U := Pipeline.UC sig nD τ) (Lvl := ℕ) (Val := Elt F) (τ := τ) osem c
        ∗ ∃ f : Buf (Elt F) ((c : Thread nD τ).loc cc0_scratch0), ((c : Thread nD τ).loc cc0_scratch0) ↦{fullShare} f) : sProp 𝕄) := by
  rw [ownSems0_eq, bigSep_four]
  iintro ⟨⟨A0, A1, A2, A3, H0⟩, ⟨B0, B1, B2, B3, H1⟩, ⟨C0, C1, C2, C3, H2⟩, ⟨D0, D1, D2, D3, H3⟩⟩
  isplitr [H0 H1 H2 H3]
  · isplitl [A0 A1 A2 A3]
    · isplitl [A0]; · iexact A0
      isplitl [A1]; · iexact A1
      isplitl [A2]; · iexact A2
      iexact A3
    isplitl [B0 B1 B2 B3]
    · isplitl [B0]; · iexact B0
      isplitl [B1]; · iexact B1
      isplitl [B2]; · iexact B2
      iexact B3
    isplitl [C0 C1 C2 C3]
    · isplitl [C0]; · iexact C0
      isplitl [C1]; · iexact C1
      isplitl [C2]; · iexact C2
      iexact C3
    isplitl [D0]; · iexact D0
    isplitl [D1]; · iexact D1
    isplitl [D2]; · iexact D2
    iexact D3
  iapply (buf_join c)
  isplitl [H0]; · iexact H0
  isplitl [H1]; · iexact H1
  isplitl [H2]; · iexact H2
  iexact H3

end Cert.Proof.Pos

end
-- ==== Proof.Launch.lean ====
/-
  The kernel's run from launch to end: what the result holds, one grid step after another, and what is left unchanged.
-/
module

public import proofs.«01_k».proof.Proof.Pieces

@[expose] public section

noncomputable section

namespace Cert.Proof.Pos

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The assertions this proof speaks in. -/
local notation "𝕄" => MT nD τ sig Unit (Elt F) ℕ (Pipeline.UC sig nD τ) ℕ

variable (m : (ℓ : Loc nD τ sig) → Buf (Elt F) ℓ) (ρ : Dev nD → PrngReg)

/-! ## What the result holds -/

/-- Step `u` as a point of the grid. -/
def pnt (u : Fin 16) : Fin cfg0.N := ⟨u.val, lt_of_lt_of_eq u.isLt N_0.symm⟩

/-- The block step `t` computes. -/
def blkAt (c : Dev nD) (t : Fin cfg0.N) : S1x512x1024.Idx → Elt F .f32 := k0_pay1 (iblk m c 0 t) (iblk m c 1 t) (iblk m c 2 t)

/-- Where in a step's block an index of the result reads. -/
def inBlk (x : S4x8192x1024.Idx) : S1x512x1024.Idx := fun a => ⟨![0, (x 1).val % 512, (x 2).val] a, by
  have h2 : (x 2).val < 1024 := (x 2).isLt
  fin_cases a
  · show 0 < 1; omega
  · show (x 1).val % 512 < 512; omega
  · show (x 2).val < 1024; omega⟩

/-- The result at the end: in each batch row, table row `r` is row `r % 512` of step `r / 512`'s block. -/
def outY (c : Dev nD) : Buf (Elt F) (resM.view.loc (c : Thread nD τ)) := fun x : S4x8192x1024.Idx =>
  blkAt m c (pnt (Ring.bk 16 ((x 1).val / 512))) (inBlk x)

/-- Each piece of it is its step's block. -/
theorem read_outY (c : Dev nD) (j : Fin 4) (u : Fin 16) : (outP j u).view.read (Elt F) (outY m c) = flat (blkAt m c (pnt u)) := by
  funext y
  show outY m c ((outP j u).view.emb y) = _
  generalize hz : Shape.reshapeEquiv squeezes_S1x512x1024_S512x1024.numel_eq y = z
  have e : (outP j u).view.emb y = (Rect.unit (s := S4x8192x1024) (outOff j u) S1x512x1024.size (outOff_inb j u)).emb z := by rw [← hz]; rfl
  rw [e]
  have h0 : (z 0).val < 1 := (z 0).isLt
  have h1 : (z 1).val < 512 := (z 1).isLt
  have hu := u.isLt
  show outY m c _ = blkAt m c (pnt u) (Shape.reshapeEquiv squeezes_S1x512x1024_S512x1024.numel_eq y)
  rw [hz]
  have e1 : (((Rect.unit (s := S4x8192x1024) (outOff j u) S1x512x1024.size (outOff_inb j u)).emb z) 1).val = 512 * u.val + (z 1).val := by
    show 512 * u.val + 1 * (z 1).val = _; omega
  have e2 : (((Rect.unit (s := S4x8192x1024) (outOff j u) S1x512x1024.size (outOff_inb j u)).emb z) 2).val = (z 2).val := by
    show 0 + 1 * (z 2).val = _; omega
  unfold outY
  have hb : Ring.bk 16 ((((Rect.unit (s := S4x8192x1024) (outOff j u) S1x512x1024.size (outOff_inb j u)).emb z) 1).val / 512) = u := by
    rw [e1]; apply Fin.ext; show (512 * u.val + (z 1).val) / 512 % 16 = u.val; omega
  have hi : inBlk ((Rect.unit (s := S4x8192x1024) (outOff j u) S1x512x1024.size (outOff_inb j u)).emb z) = z := by
    funext a
    apply Fin.ext
    unfold inBlk
    fin_cases a
    · show 0 = (z 0).val; omega
    · show (((Rect.unit (s := S4x8192x1024) (outOff j u) S1x512x1024.size (outOff_inb j u)).emb z) 1).val % 512 = (z 1).val
      rw [e1]; omega
    · exact e2
  show blkAt m c (pnt (Ring.bk 16 _)) _ = _
  rw [hb, hi]

/-! ## One step after another -/

/-- Point `t` is step `t`. -/
theorem st_coords : ∀ t : Fin cfg0.N, st (grid0.coords t) = t.val := by decide +kernel
theorem pnt_bk (t : Fin cfg0.N) : pnt (Ring.bk 16 (st (grid0.coords t))) = t := by
  have ht : t.val < 16 := lt_of_lt_of_eq t.isLt N_0
  apply Fin.ext
  show st (grid0.coords t) % 16 = t.val
  rw [st_coords]; omega

/-- What the kernel holds before step `p`. -/
abbrev ringC (c : Dev nD) (p : ℕ) : sProp 𝕄 :=
  ringAt (freeP c) (inflP c (outY m c)) (rowsP c (V m c main_v1)) (rowsP c (outY m c)) p

/-- What the three staging buffers hold at a point. -/
abbrev stagesP (c : Dev nD) (t : Fin cfg0.N) (R : sProp 𝕄) : sProp 𝕄 :=
  iprop(stgPt c (st0_0 t) ((st0_0 t).view.rep (iblk m c 0 t)) ∗ stgPt c (st0_1 t) ((st0_1 t).view.rep (iblk m c 1 t))
    ∗ stgPt c (st0_2 t) ((st0_2 t).view.rep (iblk m c 2 t)) ∗ R)

/-- From those the step computes its block. -/
theorem blockOf_eq (c : Dev nD) (t : Fin cfg0.N) :
    blockOf c (st0_0 t) (st0_1 t) (st0_2 t) ((st0_0 t).view.rep (iblk m c 0 t)) ((st0_1 t).view.rep (iblk m c 1 t)) ((st0_2 t).view.rep (iblk m c 2 t))
      = blkAt m c t := by
  have e0 := View.readAt_rep_full (st0_0 t).view (iblk m c 0 t) inb_S512x64_S512x64_0_0
  have e1 := View.readAt_rep_full (st0_1 t).view (iblk m c 1 t) inb_S64x1024_S64x1024_0_0
  have e2 := View.readAt_rep_full (st0_2 t).view (iblk m c 2 t) inb_S1x1024_S1x1024_0_0
  unfold blockOf blkAt
  exact congr (congr (congrArg k0_pay1 e0) e1) e2

theorem hY (c : Dev nD) (t : Fin cfg0.N) (j : Fin 4) :
    (outP j (Ring.bk 16 (st (grid0.coords t)))).view.read (Elt F) (outY m c)
      = flat (blockOf c (st0_0 t) (st0_1 t) (st0_2 t) ((st0_0 t).view.rep (iblk m c 0 t)) ((st0_1 t).view.rep (iblk m c 1 t)) ((st0_2 t).view.rep (iblk m c 2 t))) := by
  rw [blockOf_eq, read_outY, pnt_bk]

/-- A triple from what is held before to what is held after, over a triple that leaves the rest alone. -/
theorem framed {α : Type} {c : Dev nD} {p : Prog (TpuEff nD τ sig (Elt F) Λ₀ .tc) α} {A P R Q0 Q : sProp 𝕄}
    (h : A ⊢ (wp frame (wpE (defs₀ (F := F)) Variants.none (c : Thread nD τ) none) Set.univ p (fun _ => Q0) : sProp 𝕄))
    (hP : P ⊢ iprop(A ∗ R)) (hQ : iprop(Q0 ∗ R) ⊢ Q) :
    P ⊢ (wp frame (wpE (defs₀ (F := F)) Variants.none (c : Thread nD τ) none) Set.univ p (fun _ => Q) : sProp 𝕄) :=
  (hP.trans (sep_mono_left h)).trans ((wp_frame_r _ _ _).trans (wp_mono _ _ _ fun _ => hQ))

set_option backward.isDefEq.respectTransparency.types false in
/-- Each step of the kernel takes what is held before it to what is held before the next. -/
theorem step (c : Dev nD) (t : Fin cfg0.N) :
    stagesP m c t iprop(ringC m c t.val ∗ owesP c)
      ⊢ (wp frame (wpE (defs₀ (F := F)) Variants.none (c : Thread nD τ) none) Set.univ (bodyAt0 t)
        (fun _ => stagesP m c t iprop(ringC m c (t.val + 1) ∗ owesP c)) : sProp 𝕄) := by
  have ht : t.val < 16 := lt_of_lt_of_eq t.isLt N_0
  have hst := st_coords t
  have hv := hY m c t
  by_cases h4 : 4 ≤ t.val
  · have h1 : k0_cond1 (grid0.coords t) = 1#1 := (cond1_iff _).mpr (by omega)
    by_cases h15 : t.val = 15
    · have h2 : k0_cond2 (grid0.coords t) = 1#1 := (cond2_iff _).mpr (by omega)
      obtain ⟨h3, h4, h5, h6⟩ := cond36_of (grid0.coords t) (by omega)
      refine framed (R := bigSep (Ring.behindSet 4 15) (rowsP c (outY m c))) (run2 c (grid0.coords t) _ _ _ _ _ _ _ _ _ (V m c main_v1) (outY m c) h1 h2 h3 h4 h5 h6 hv) ?_ ?_
      all_goals rw [hst, h15]
      · iintro ⟨S0, S1, S2, HR, HW⟩
        ihave HR := (ring_open_last (freeP c) (inflP c (outY m c)) (rowsP c (V m c main_v1)) (rowsP c (outY m c))) $$ HR
        icases HR with ⟨HA, I0, I1, I2, I3, HB⟩
        isplitr [HB]
        · isplitl [S0]; · iexact S0
          isplitl [S1]; · iexact S1
          isplitl [S2]; · iexact S2
          isplitl [I0]; · iexact I0
          isplitl [I1]; · iexact I1
          isplitl [I2]; · iexact I2
          isplitl [I3]; · iexact I3
          isplitl [HA]; · iexact HA
          iexact HW
        iexact HB
      · iintro ⟨⟨S0, S1, S2, I0, I1, I2, I3, HA, HW⟩, HB⟩
        isplitl [S0]; · iexact S0
        isplitl [S1]; · iexact S1
        isplitl [S2]; · iexact S2
        isplitr [HW]
        · iapply (ring_close_last (freeP c) (inflP c (outY m c)) (rowsP c (V m c main_v1)) (rowsP c (outY m c)))
          isplitl [I0]; · iexact I0
          isplitl [I1]; · iexact I1
          isplitl [I2]; · iexact I2
          isplitl [I3]; · iexact I3
          isplitl [HA]; · iexact HA
          iexact HB
        iexact HW
    · have h2 : ¬ k0_cond2 (grid0.coords t) = 1#1 := fun h => h15 (by have := (cond2_iff _).mp h; omega)
      refine framed (R := restAt (freeP c) (inflP c (outY m c)) (rowsP c (V m c main_v1)) (rowsP c (outY m c)) t.val)
        (run1 c (grid0.coords t) _ _ _ _ _ _ _ _ _ (V m c main_v1) (outY m c) h1 h2 hv) ?_ ?_
      all_goals rw [hst]
      · iintro ⟨S0, S1, S2, HR, HW⟩
        ihave HR := (ring_open (freeP c) (inflP c (outY m c)) (rowsP c (V m c main_v1)) (rowsP c (outY m c)) t.val ht) $$ HR
        rw [role_late (freeP c) (inflP c (outY m c)) t.val h4]
        icases HR with ⟨HA, I0, HB⟩
        isplitr [HB]
        · isplitl [S0]; · iexact S0
          isplitl [S1]; · iexact S1
          isplitl [S2]; · iexact S2
          isplitl [I0]; · iexact I0
          isplitl [HA]; · iexact HA
          iexact HW
        iexact HB
      · iintro ⟨⟨S0, S1, S2, I0, HA, HW⟩, HB⟩
        isplitl [S0]; · iexact S0
        isplitl [S1]; · iexact S1
        isplitl [S2]; · iexact S2
        isplitr [HW]
        · iapply (ring_close (freeP c) (inflP c (outY m c)) (rowsP c (V m c main_v1)) (rowsP c (outY m c)) t.val h4 (by omega))
          isplitl [I0]; · iexact I0
          isplitl [HA]; · iexact HA
          iexact HB
        iexact HW
  · have h1 : ¬ k0_cond1 (grid0.coords t) = 1#1 := fun h => h4 (by have := (cond1_iff _).mp h; omega)
    have h2 : ¬ k0_cond2 (grid0.coords t) = 1#1 := fun h => h4 (by have := (cond2_iff _).mp h; omega)
    refine framed (R := restAt (freeP c) (inflP c (outY m c)) (rowsP c (V m c main_v1)) (rowsP c (outY m c)) t.val)
      (run0 c (grid0.coords t) _ _ _ _ _ _ _ _ _ (V m c main_v1) (outY m c) h1 h2 hv) ?_ ?_
    all_goals rw [hst]
    · iintro ⟨S0, S1, S2, HR, HW⟩
      ihave HR := (ring_open (freeP c) (inflP c (outY m c)) (rowsP c (V m c main_v1)) (rowsP c (outY m c)) t.val ht) $$ HR
      rw [role_boot (freeP c) (inflP c (outY m c)) t.val (by omega)]
      icases HR with ⟨HA, I0, HB⟩
      isplitr [HB]
      · isplitl [S0]; · iexact S0
        isplitl [S1]; · iexact S1
        isplitl [S2]; · iexact S2
        isplitl [I0]; · iexact I0
        isplitl [HA]; · iexact HA
        iexact HW
      iexact HB
    · iintro ⟨⟨S0, S1, S2, I0, HW⟩, HB⟩
      isplitl [S0]; · iexact S0
      isplitl [S1]; · iexact S1
      isplitl [S2]; · iexact S2
      isplitr [HW]
      · iapply (ring_close_boot (freeP c) (inflP c (outY m c)) (rowsP c (V m c main_v1)) (rowsP c (outY m c)) t.val (by omega))
        isplitl [I0]; · iexact I0
        iexact HB
      iexact HW

/-! ## The pipeline's proof data -/

/-- What the kernel holds before point `p`: its ring, and the core's generator register. -/
def ringInv (c : Dev nD) (p : ℕ) : sProp 𝕄 := iprop(ringC m c p ∗ ∃ r, prngReg c r)

/-- The three staged arrays as the region finds them, each block left in place, and the ring between the points. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ p := ringInv m c p.val
  q _ := fullShare
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]

/-- Each staging buffer holds its block at every point. -/
theorem before_w0 (c : Dev nD) (t : Fin cfg0.N) (d) : (dats m 0 c).before 0 t d = iblk m c 0 t :=
  ((dats m 0 c).before_in_eq_fetched 0 rfl (fun _ => rfl) (fun _ _ _ => rfl)
    (fun t => by rw [after_w0]; unfold Dat.blockOf iblk; rw [A_eq]) t d).trans (by unfold Dat.fetched Dat.blockOf iblk; rw [A_eq]; try rfl)
theorem before_w1 (c : Dev nD) (t : Fin cfg0.N) (d) : (dats m 0 c).before 1 t d = iblk m c 1 t :=
  ((dats m 0 c).before_in_eq_fetched 1 rfl (fun _ => rfl) (fun _ _ _ => rfl)
    (fun t => by rw [after_w1]; unfold Dat.blockOf iblk; rw [A_eq]) t d).trans (by unfold Dat.fetched Dat.blockOf iblk; rw [A_eq]; try rfl)
theorem before_w2 (c : Dev nD) (t : Fin cfg0.N) (d) : (dats m 0 c).before 2 t d = iblk m c 2 t :=
  ((dats m 0 c).before_in_eq_fetched 2 rfl (fun _ => rfl) (fun _ _ _ => rfl)
    (fun t => by rw [after_w2]; unfold Dat.blockOf iblk; rw [A_eq]) t d).trans (by unfold Dat.fetched Dat.blockOf iblk; rw [A_eq]; try rfl)

/-- What the pipeline hands the kernel at a point, and what it takes back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- A staging buffer owned at a block is one holding it. -/
theorem stg_of_owns (c : Dev nD) {S : Shape} (M : Memref sig .tc .vmem S .f32) (x : S.Idx → Elt F .f32) :
    (owns (c : Thread nD τ) M fullShare x : sProp 𝕄) ⊢ stgPt c M (M.view.rep x) := by
  unfold owns
  iintro ⟨%g, %hg, H⟩
  ihave H := (pointsTo_rep_entails (c : Thread nD τ) M g fullShare) $$ H
  rw [hg]
  iexact H
theorem owns_of_stg (c : Dev nD) {S : Shape} (M : Memref sig .tc .vmem S .f32) (x : S.Idx → Elt F .f32) :
    (stgPt c M (M.view.rep x) : sProp 𝕄) ⊢ owns (c : Thread nD τ) M fullShare x := by
  unfold owns
  iintro H
  iexists _; isplitr
  · ipureintro; exact View.read_rep _ _
  iexact H

set_option backward.isDefEq.respectTransparency.types false in
theorem sound_body (c : Dev nD) (t : Fin cfg0.N) :
    bodyPre m c t ⊢ (wp frame (wpE (defs₀ (F := F)) Variants.none (c : Thread nD τ) none) Set.univ (bodyAt0 t) (fun _ => bodyPost m c t) : sProp 𝕄) := by
  unfold bodyPre bodyPost
  rw [after_w0, after_w1, after_w2]
  simp only [before_w0, before_w1, before_w2]
  rw [show (dats m 0 c).Φ t.castSucc = ringInv m c t.val from rfl, show (dats m 0 c).Φ t.succ = ringInv m c (t.val + 1) from rfl]
  unfold Dat.owesAt Pipeline.owesWithin ringInv
  rw [show (dats m 0 c).owed t.castSucc = 0 from rfl, show (dats m 0 c).owed t.succ = 0 from rfl]
  refine framed (R := iprop(∃ r, prngReg c r)) (step m c t) ?_ ?_
  · iintro ⟨⟨HR, Hg⟩, ⟨%W, -, HW⟩, ⟨%d0, S0⟩, ⟨%d1, S1⟩, ⟨%d2, S2⟩⟩
    isplitr [Hg]
    · isplitl [S0]; · iapply (stg_of_owns c (st0_0 t) (iblk m c 0 t)); iexact S0
      isplitl [S1]; · iapply (stg_of_owns c (st0_1 t) (iblk m c 1 t)); iexact S1
      isplitl [S2]; · iapply (stg_of_owns c (st0_2 t) (iblk m c 2 t)); iexact S2
      isplitl [HR]; · iexact HR
      iexists W; iexact HW
    iexact Hg
  · iintro ⟨⟨S0, S1, S2, HR, ⟨%W, HW⟩⟩, Hg⟩
    isplitl [HR Hg]
    · isplitl [HR]; · iexact HR
      iexact Hg
    isplitl [HW]
    · iexists W; isplitr; · ipureintro; exact fun _ _ => Or.inl trivial
      iexact HW
    isplitl [S0]; · iapply (owns_of_stg c (st0_0 t) (iblk m c 0 t)); iexact S0
    isplitl [S1]; · iapply (owns_of_stg c (st0_1 t) (iblk m c 1 t)); iexact S1
    iapply (owns_of_stg c (st0_2 t) (iblk m c 2 t)); iexact S2

/-- The body table's entry is the kernel at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The program up to the kernel. -/
theorem to_kernel : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

/-- The buffers at the end: the result, and the others as the kernel found them. -/
def finalY (c : Dev nD) (b : Ref sig .tc) : Buf (Elt F) ((c.tc : Thread nD τ).loc b) := Function.update (V m c) main_v1 (outY m c) b

theorem ends_in (c : Dev nD) : Pipeline.Ends spec0 osem {main_v1} c (V m c) ⊢ (ringInv m c 0 : sProp 𝕄) := by
  unfold Pipeline.Ends ringInv
  rw [Pipeline.routed_singleton, scopedRest0_eq]
  iintro ⟨HR, Ho, Hb, Hg⟩
  ihave HR := (of_eq (result_eq c (V m c main_v1))) $$ HR
  ihave HI := (idle_split c) $$ [Ho Hb]
  · isplitl [Ho]; · iexact Ho
    iexact Hb
  isplitr [Hg]
  · iapply (ring_start (freeP c) (inflP c (outY m c)) (rowsP c (V m c main_v1)) (rowsP c (outY m c)))
    isplitl [HR]; · iexact HR
    iexact HI
  iexact Hg

theorem ends_out (c : Dev nD) : (ringInv m c 16 : sProp 𝕄) ⊢ Pipeline.Ends spec0 osem {main_v1} c (finalY m c) := by
  unfold Pipeline.Ends ringInv
  rw [Pipeline.routed_singleton, scopedRest0_eq, show finalY m c main_v1 = outY m c from Function.update_self ..]
  iintro ⟨HR, Hg⟩
  ihave HR := (ring_end (freeP c) (inflP c (outY m c)) (rowsP c (V m c main_v1)) (rowsP c (outY m c))) $$ HR
  icases HR with ⟨HR, HI⟩
  ihave HI := (idle_join c) $$ HI
  icases HI with ⟨Ho, Hb⟩
  isplitl [HR]
  · iapply (of_eq (result_eq c (outY m c)).symm); iexact HR
  isplitl [Ho]; · iexact Ho
  isplitl [Hb]; · iexact Hb
  iexact Hg

set_option backward.isDefEq.respectTransparency.types false in
/-- From any memory with zero counters, every fair execution ends, with the result at `outY`, the four arguments
    unchanged and every counter at zero. -/
theorem run_main : θ_run defs (onTc (τ := τ) (main (F := F))) ⟨m, fun _ => 0, ρ⟩ (fun r => (∀ c : Dev nD,
      r.2.mem ((c.tc : Thread nD τ).loc main_v1) = outY m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_routed (Q' := _) cfgs (dats m) (0 : Fin 1) launch0 ownSemFacts defs₀ Variants.none m ρ main
    (hbody := fun c => (body_obligation m c).loose) (hshare := fun c => (dats m 0 c).share_full fun _ => rfl)
    (howed := fun _ _ => rfl) (V := V m) (hmain := to_kernel m) (hA := A_eq m) (R := {main_v1}) (hR := by decide) (Y := finalY m)
    (hin := ends_in m) (hout := ends_out m)
    (hQ' := fun r h => ⟨fun c =>
      ⟨((h.1 c).2.1 main_v1 (Finset.mem_singleton_self _)).trans (Function.update_self ..),
        ((h.1 c).2.2 main_arg0 (Finset.mem_sdiff.mpr ⟨Pipeline.mem_restRefs_of main_arg0 (by decide) (by decide), by decide⟩)).trans (V_main_arg0 m c),
        ((h.1 c).1 0).trans (((dats m 0 c).arrAt_in 0 rfl _).trans ((A_eq m c 0).trans (V_main_arg1 m c))),
        ((h.1 c).1 1).trans (((dats m 0 c).arrAt_in 1 rfl _).trans ((A_eq m c 1).trans (V_main_arg2 m c))),
        ((h.1 c).2.2 main_arg3 (Finset.mem_sdiff.mpr ⟨Pipeline.mem_restRefs_of main_arg3 (by decide) (by decide), by decide⟩)).trans (V_main_arg3 m c)⟩, h.2⟩)

end Cert.Proof.Pos

end
-- ==== Proof.KernelValue.lean ====
/-
  What the kernel's result is, entry by entry. Row `r` of the result lies in block `r / 512` at place `r % 512`; that
  block is 512 rows of the table times the matrix, plus the bias in every row.
-/
module

public import proofs.«01_k».proof.Proof.Formula
public import proofs.«01_k».proof.Proof.Launch
public import Idealize.ShloMosaic.Lib.MatmulPlain
public import Idealize.ShloMosaic.Lib.Pipeline.Value

@[expose] public section

noncomputable section

namespace Cert.Proof.Pos

open Cert.KernelIdeal Cert.KernelIdeal.Gen Cert.KernelIdeal.Facts
open Idealize.ShloMosaic Idealize.ShloMosaic.ValueIdx
open Idealize.ShloMosaic.TcCoe
open scoped BigOperators

/-- One step's block at row `p` and column `d`: row `p` of its rows of the table times the matrix, plus the bias. -/
theorem pay_apply (e : Vec Ideal S512x64 .f32) (w : Vec Ideal S64x1024 .f32) (b : Vec Ideal S1x1024 .f32) (p : Fin 512) (d : Fin 1024) :
    k0_pay1 e w b (ix3 (0 : Fin 1) p d) = (∑ k : Fin 64, e (ix2 p k) * w (ix2 k d)) + b (ix2 (0 : Fin 1) d) := by
  unfold k0_pay1
  rw [shapeCast_apply _ _ (ix3 (0 : Fin 1) p d) (ix2 p d) (by
      rw [Shape.rowMajor_val_two, Shape.rowMajor_val_three]
      show p.val * 1024 + d.val = (0 * 512 + p.val) * 1024 + d.val
      omega),
    addf_apply, show dot_S512x64_S64x1024_S512x1024_1_0_0_1_n_n = DotDims.plain 512 64 1024 from rfl,
    show ∀ (acc : FVec Ideal S512x1024 .f32), matmul (DotDims.plain 512 64 1024) none e w acc (ix2 p d)
      = acc (ix2 p d) + ∑ k : Fin 64, e (ix2 p k) * w (ix2 k d) from fun acc => Ideal.matmul_plain_apply none e w acc p d,
    broadcastTo_apply _ _ _ (ix2 (0 : Fin 1) d) (by intro a; match a with | ⟨0, _⟩ => rfl | ⟨1, _⟩ => rfl),
    shapeCast_apply _ _ (ix2 (0 : Fin 1) d) (ix2 (0 : Fin 1) d) rfl]
  rw [show constant S512x1024 .f32 0x00000000#32 (ix2 p d) = (0 : Ideal .f32) from Idealize.ShloMosaic.Ideal.ofBits_zero_f32]
  rw [zero_add]

variable (m : (ℓ : Loc nD τ sig) → Buf (Elt Ideal) ℓ) (c : Dev nD)

/-- Before the grid starts the bias stands as one row, its entries unchanged. -/
theorem V_bias (d : Fin 1024) : V m c main_v0 (ix2 (0 : Fin 1) d) = m ((c : Thread nD τ).loc main_arg3) (ix1 d) := by
  have h : V m c main_v0 = shapeCast S1x1024 (m ((c : Thread nD τ).loc main_arg3)) shapeCasts_S1024_S1x1024 := by
    show StableHlo.after hostOps0 _ _ = _
    simp only [hostOps0]
    after_results_simp <;> rfl
  rw [h]
  exact shapeCast_apply _ _ (ix2 (0 : Fin 1) d) (ix1 d) (by
    rw [Shape.rowMajor_val_one, Shape.rowMajor_val_two]
    show d.val = 0 * 1024 + d.val
    omega)

/-- The block of the table that a step reads: as many blocks down as the step's number, at the first column. -/
theorem idx0_row : ∀ t : Fin cfg0.N, cc0_transform_0 (grid0.coords t) 0 = t.val := by decide +kernel
@[inherit_doc idx0_row] theorem idx0_col : ∀ t : Fin cfg0.N, cc0_transform_0 (grid0.coords t) 1 = 0 := by decide +kernel

/-- The table's rows at step `u`: its row `p` is row `512 u + p` of the table. -/
theorem iblk0_apply (u : Fin 16) (p : Fin 512) (k : Fin 64) :
    iblk m c 0 (pnt u) (ix2 p k) = m ((c : Thread nD τ).loc main_arg1) (ix2 (⟨512 * u.val + p.val, by omega⟩ : Fin 12288) k) := by
  rw [← V_main_arg1 m c]
  show V m c main_arg1 (((cfg0.win 0).blk (pnt u)).view.emb (ix2 p k)) = _
  refine congrArg (V m c main_arg1) (funext fun a => Fin.ext ?_)
  show (((cfg0.win 0).rect (pnt u)).emb (ix2 p k) a).val = _
  rw [Pipeline.Window.rect_emb_val (cfg0.win 0) (pnt u) (ix2 p k) a rfl]
  match a with
  | ⟨0, _⟩ =>
    show cc0_transform_0 (grid0.coords (pnt u)) 0 * 512 + p.val = 512 * u.val + p.val
    rw [idx0_row]
    show u.val * 512 + p.val = _
    omega
  | ⟨1, _⟩ =>
    show cc0_transform_0 (grid0.coords (pnt u)) 1 * 64 + k.val = k.val
    rw [idx0_col]; omega

/-- The matrix is read whole at every step. -/
theorem iblk1_apply (t : Fin cfg0.N) (k : Fin 64) (d : Fin 1024) :
    iblk m c 1 t (ix2 k d) = m ((c : Thread nD τ).loc main_arg2) (ix2 k d) := by
  rw [← V_main_arg2 m c]
  show V m c main_arg2 (((cfg0.win 1).blk t).view.emb (ix2 k d)) = _
  refine congrArg (V m c main_arg2) (funext fun a => Fin.ext ?_)
  exact Pipeline.Window.rect_emb_val_of_index_zero (cfg0.win 1) t a (by fin_cases a <;> rfl) (ix2 k d)

/-- The bias is read whole at every step. -/
theorem iblk2_apply (t : Fin cfg0.N) (d : Fin 1024) :
    iblk m c 2 t (ix2 (0 : Fin 1) d) = m ((c : Thread nD τ).loc main_arg3) (ix1 d) := by
  rw [← V_bias m c d]
  show V m c main_v0 (((cfg0.win 2).blk t).view.emb (ix2 (0 : Fin 1) d)) = _
  refine congrArg (V m c main_v0) (funext fun a => Fin.ext ?_)
  exact Pipeline.Window.rect_emb_val_of_index_zero (cfg0.win 2) t a (by fin_cases a <;> rfl) (ix2 (0 : Fin 1) d)

/-- **The kernel's result** at batch `j`, row `r` and column `d` is the formula at `(r, d)`. -/
theorem outY_apply (j : Fin 4) (r : Fin 8192) (d : Fin 1024) :
    outY m c (ix3 j r d) = Formula.pos (m ((c : Thread nD τ).loc main_arg1)) (m ((c : Thread nD τ).loc main_arg2))
      (m ((c : Thread nD τ).loc main_arg3)) r d := by
  have hr : r.val < 8192 := r.isLt
  have hb : (Ring.bk 16 (r.val / 512)).val = r.val / 512 := by
    show r.val / 512 % 16 = _
    omega
  have hi : inBlk (ix3 j r d) = ix3 (0 : Fin 1) (⟨r.val % 512, by omega⟩ : Fin 512) d := by
    funext a; match a with | ⟨0, _⟩ => rfl | ⟨1, _⟩ => rfl | ⟨2, _⟩ => rfl
  have hrow : ∀ h, (⟨512 * (Ring.bk 16 (r.val / 512)).val + r.val % 512, h⟩ : Fin 12288) = ⟨r.val, by omega⟩ := fun h =>
    Fin.ext (by show 512 * (Ring.bk 16 (r.val / 512)).val + r.val % 512 = r.val; rw [hb]; omega)
  show k0_pay1 (iblk m c 0 (pnt (Ring.bk 16 (r.val / 512)))) (iblk m c 1 _) (iblk m c 2 _) (inBlk (ix3 j r d)) = _
  rw [hi, pay_apply]
  unfold Formula.pos
  refine congr (congrArg _ (Finset.sum_congr rfl fun k _ => ?_)) (iblk2_apply m c _ d)
  exact congr (congrArg _ ((iblk0_apply m c _ ⟨r.val % 512, by omega⟩ k).trans (congrArg (fun z => m ((c : Thread nD τ).loc main_arg1) (ix2 z k)) (hrow _)))) (iblk1_apply m c _ k d)

end Cert.Proof.Pos

end
-- ==== Proof.RefValue.lean ====
/-
  What the reference computes, entry by entry. Its row numbers count up from zero, so they are never negative and never
  past the table's end: the row that is taken at `r` is row `r` itself, and no entry is replaced by a NaN.
-/
module

public import proofs.«01_k».proof.Proof.Formula
public import proofs.«01_k».proof.Proof.Gen.ReferenceIdeal.Run
public import Idealize.ShloMosaic.Lib.Routing.Ops
public import Idealize.ShloMosaic.Lib.StackMember
public import Idealize.ShloMosaic.Lib.ReduceAll
public import Idealize.ShloMosaic.Lib.StableHlo.Predicate
public import Idealize.ShloMosaic.Lib.ValueIdxRank6

@[expose] public section

noncomputable section

namespace Cert.Proof.Ref

open Cert.ReferenceIdeal Cert.ReferenceIdeal.Gen Cert.ReferenceIdeal.Facts
open Idealize.ShloMosaic Idealize.ShloMosaic.ValueIdx
open scoped BigOperators

/-- The row numbers that the reference takes, before they are read as start indices: a negative one counts from the end. -/
def rowNo : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 12288#32))) (iotaInDim S8192 32 0)

/-- The row numbers as a column of start indices. -/
def rowIdx : IVec S8192x1 32 := broadcastInDim S8192x1 ![0] bcast_S8192_S8192x1_0 rowNo

/-- Which row numbers lie inside the table. -/
def inside : IVec S8192 1 :=
  Host.reduce IntOp.andi
    (andi (cmpi .sge rowIdx (broadcastInDim S8192x1 ![] bcast_S_S8192x1 (constantI S_ 32 0#32)))
      (cmpi .sle rowIdx (broadcastInDim S8192x1 ![0, 1] bcast_S1x1_S8192x1_0_1 (broadcastInDim S1x1 ![1] bcast_S1_S1x1_1 (constantI S1 32 12287#32)))))
    (constantI S_ 1 1#1) reducesTo_S8192x1_S8192_d1 h_S_

/-- The rows taken from the table `E`, with a NaN in every entry of a row whose number lies outside. -/
def taken (E : FVec Ideal S12288x64 .f32) : FVec Ideal S8192x64 .f32 :=
  select (broadcastInDim S8192x64 ![0] bcast_S8192_S8192x64_0 inside)
    (Host.gather gather_S12288x64_S8192x1_S8192x64_1_0_n_n_0_1_164 E rowIdx)
    (broadcastInDim S8192x64 ![] bcast_S_S8192x64 (constant S_ .f32 0x7FC00000#32))

/-- The array that every batch repeats: the rows taken, times `W`, plus `b` in every row. -/
def plane (E : FVec Ideal S12288x64 .f32) (W : FVec Ideal S64x1024 .f32) (b : FVec Ideal S1024 .f32) : FVec Ideal S8192x1024 .f32 :=
  addf (Host.dotGeneral dot_S8192x64_S64x1024_S8192x1024_1_0_0_1_n_n none (taken E) W)
    (broadcastInDim S8192x1024 ![0, 1] bcast_S1x1024_S8192x1024_0_1 (broadcastInDim S1x1024 ![1] bcast_S1024_S1x1024_1 b))

/-- The reference's result: the array `plane` repeated for each of the four batches. -/
def result (E : FVec Ideal S12288x64 .f32) (W : FVec Ideal S64x1024 .f32) (b : FVec Ideal S1024 .f32) : FVec Ideal S4x8192x1024 .f32 :=
  shapeCast S4x8192x1024 (broadcastInDim S4x1x1x8192x1x1024 ![0, 1, 2, 3, 4, 5] bcast_S1x1x1x8192x1x1024_S4x1x1x8192x1x1024_0_1_2_3_4_5
    (shapeCast S1x1x1x8192x1x1024 (broadcastInDim S1x8192x1024 ![1, 2] bcast_S8192x1024_S1x8192x1024_1_2 (plane E W b))
      shapeCasts_S1x8192x1024_S1x1x1x8192x1x1024)) shapeCasts_S4x1x1x8192x1x1024_S4x8192x1024

/-- A number below `8192` is no negative word. -/
theorem not_neg (r : ℕ) (h : r < 8192) : IntOp.cmpi .slt (BitVec.ofNat 32 r) 0#32 ≠ 1#1 := by
  have e : (BitVec.ofNat 32 r).toNat = r := by rw [BitVec.toNat_ofNat]; omega
  rw [ne_eq, StableHlo.Predicate.slt_iff_toNat (by rw [e]; omega) (by decide)]
  simp

/-- The row number at `r` is `r`. -/
theorem rowNo_apply (r : Fin 8192) : rowNo (ix1 r) = BitVec.ofNat 32 r.val := by
  unfold rowNo
  show (if IntOp.cmpi .slt (BitVec.ofNat 32 r.val) 0#32 = 1#1 then _ else BitVec.ofNat 32 r.val) = _
  exact if_neg (not_neg r.val r.isLt)

/-- The start index at `r` is `r`. -/
theorem rowIdx_apply (r : Fin 8192) (z : Fin 1) : rowIdx (ix2 r z) = BitVec.ofNat 32 r.val := by
  unfold rowIdx
  rw [broadcastInDim_apply _ _ _ _ (ix1 r) (by intro a; match a with | ⟨0, _⟩ => rfl)]
  exact rowNo_apply r

/-- Every row number lies inside the table. -/
theorem inside_apply (j : S8192.Idx) : inside j = 1#1 := by
  unfold inside
  refine Host.reduce_andi_one _ _ _ _ _ rfl fun i => ?_
  show IntOp.andi (IntOp.cmpi .sge (rowIdx i) 0#32) (IntOp.cmpi .sle (rowIdx i) 12287#32) = 1#1
  rw [show rowIdx i = BitVec.ofNat 32 (i 0).val from (congrArg rowIdx (eq_ix2 i)).trans (rowIdx_apply (i 0) (i 1))]
  have hr : (i 0).val < 8192 := (i 0).isLt
  have e : (BitVec.ofNat 32 (i 0).val).toNat = (i 0).val := by rw [BitVec.toNat_ofNat]; omega
  rw [(StableHlo.Predicate.sge_iff_toNat (by rw [e]; omega) (by decide)).2 (by simp),
    (StableHlo.Predicate.sle_iff_toNat (by rw [e]; omega) (by decide)).2 (by rw [e]; show _ ≤ 12287; omega)]
  rfl

/-- Row `r` of the rows taken is row `r` of the table. -/
theorem taken_apply (E : FVec Ideal S12288x64 .f32) (r : Fin 8192) (k : Fin 64) :
    taken E (ix2 r k) = E (ix2 (⟨r.val, by omega⟩ : Fin 12288) k) := by
  unfold taken
  rw [select_apply, broadcastInDim_apply _ _ _ _ (ix1 r) (by intro a; match a with | ⟨0, _⟩ => rfl), inside_apply, select_one]
  exact Routing.gather_row _ rfl rfl rfl rfl rfl E rowIdx r k ⟨r.val, by omega⟩ (rowIdx_apply r 0) (by decide)

/-- The array that every batch repeats is the formula. -/
theorem plane_apply (E : FVec Ideal S12288x64 .f32) (W : FVec Ideal S64x1024 .f32) (b : FVec Ideal S1024 .f32) (r : Fin 8192) (d : Fin 1024) :
    plane E W b (ix2 r d) = Formula.pos E W b r d := by
  unfold plane
  rw [addf_apply, show dot_S8192x64_S64x1024_S8192x1024_1_0_0_1_n_n = DotDims.plain 8192 64 1024 from rfl,
    StackMember.dotGeneral_plain_apply,
    broadcastInDim_apply _ _ _ _ (ix2 (0 : Fin 1) d) (by intro a; match a with | ⟨0, _⟩ => rfl | ⟨1, _⟩ => rfl),
    broadcastInDim_apply _ _ _ _ (ix1 d) (by intro a; match a with | ⟨0, _⟩ => rfl)]
  unfold Formula.pos
  simp only [taken_apply]

/-- **The reference's result** at batch `j`, row `r` and column `d` is the formula at `(r, d)`. -/
theorem result_apply (E : FVec Ideal S12288x64 .f32) (W : FVec Ideal S64x1024 .f32) (b : FVec Ideal S1024 .f32) (j : Fin 4) (r : Fin 8192)
    (d : Fin 1024) : result E W b (ix3 j r d) = Formula.pos E W b r d := by
  unfold result
  rw [shapeCast_apply _ _ (ix3 j r d) (ix6 j (0 : Fin 1) (0 : Fin 1) r (0 : Fin 1) d) (by
      rw [Shape.rowMajor_val_six, Shape.rowMajor_val_three]
      show ((((j.val * 1 + 0) * 1 + 0) * 8192 + r.val) * 1 + 0) * 1024 + d.val = (j.val * 8192 + r.val) * 1024 + d.val
      omega),
    broadcastInDim_apply _ _ _ _ (ix6 (0 : Fin 1) (0 : Fin 1) (0 : Fin 1) r (0 : Fin 1) d) (by
      intro a; match a with | ⟨0, _⟩ => rfl | ⟨1, _⟩ => rfl | ⟨2, _⟩ => rfl | ⟨3, _⟩ => rfl | ⟨4, _⟩ => rfl | ⟨5, _⟩ => rfl),
    shapeCast_apply _ _ (ix6 (0 : Fin 1) (0 : Fin 1) (0 : Fin 1) r (0 : Fin 1) d) (ix3 (0 : Fin 1) r d) (by
      rw [Shape.rowMajor_val_six, Shape.rowMajor_val_three]
      show (0 * 8192 + r.val) * 1024 + d.val = ((((0 * 1 + 0) * 1 + 0) * 8192 + r.val) * 1 + 0) * 1024 + d.val
      omega),
    broadcastInDim_apply _ _ _ _ (ix2 r d) (by intro a; match a with | ⟨0, _⟩ => rfl | ⟨1, _⟩ => rfl)]
  exact plane_apply E W b r d

/-- The reference's run: it ends, its result is `result` of the arguments, and the arguments and the counters are as they were. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_v9)
          = result (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨h, sem_eq_zero_of_no_sems (by decide) r.2⟩) (Value.run (F := Ideal) m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.ValueIdx Idealize.SL.Sem

/-- The kernel, its floats opaque, ends with its arguments unchanged and every counter at zero. -/
theorem frame_kernel : Cert.quiescent_Kernel :=
  S.quiescent_of fun m g => (θ_run Cert.KernelIdeal.defs _ _).mono (fun _ h => ⟨fun c => (h.1 c).2, h.2⟩) (Pos.run_main (F := Bits) m g)

/-- So does the kernel over the extended reals. -/
theorem frame_kernelIdeal : Cert.quiescent_KernelIdeal := fun m g _ =>
  (θ_run Cert.KernelIdeal.defs _ _).mono (fun _ h => ⟨fun c => (h.1 c).2, h.2⟩) (Pos.run_main (F := Ideal) m g)

/-- So does the reference. -/
theorem frame_referenceIdeal : Cert.quiescent_ReferenceIdeal := fun m g _ =>
  (θ_run Cert.ReferenceIdeal.defs _ _).mono (fun _ h => ⟨fun c => (h.1 c).2, h.2⟩) (Ref.run_main m g)

/-- On the same table, matrix and bias the reference's result is the kernel's, entry by entry: both are the formula. -/
theorem result_eq_outY (m : (ℓ : Loc Cert.KernelIdeal.nD Cert.KernelIdeal.τ Cert.KernelIdeal.sig) → Buf (Elt Ideal) ℓ)
    (c : Dev Cert.KernelIdeal.nD) :
    Ref.result (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = Pos.outY m c := by
  funext x
  have hx : x = ix3 (x 0 : Fin 4) (x 1 : Fin 8192) (x 2 : Fin 1024) := eq_ix3 x
  rw [hx]
  exact (Ref.result_apply _ _ _ _ _ _).trans (Pos.outY_apply m c _ _ _).symm

/-- Kernel and reference compute the same function over the extended reals. -/
theorem same_function : Cert.algebraic_KernelIdeal_ReferenceIdeal := by
  intro m g m' g' _ hargs
  refine ⟨fun c => Pos.outY m c, (θ_run Cert.KernelIdeal.defs _ _).mono (fun _ h => h.1) (Pos.run_main (F := Ideal) m g),
    (θ_run Cert.ReferenceIdeal.defs _ _).mono (fun _ h c => ⟨((h.1 c).1).trans ?_, (h.1 c).2⟩) (Ref.run_main m' g')⟩
  obtain ⟨-, h1, h2, h3⟩ := hargs c
  rw [h1, h2, h3]
  exact result_eq_outY m c

/-- Everything that is claimed. -/
theorem claim : Cert.Claim := ⟨Cert.Kernel.Gen.facts, Cert.KernelIdeal.Gen.facts, Cert.ReferenceIdeal.Gen.facts,
  frame_kernel, frame_kernelIdeal, frame_referenceIdeal, trivial, same_function⟩

end Cert.Proof

end
